-- ==== Defs.lean ====
def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6)
      ∧ r.2.mem ((c.tc : Thread Cert.Kernel12.nD Cert.Kernel12.τ).loc Cert.Kernel12.main_arg7) = m ((c.tc : Thread Cert.Kernel12.nD Cert.Kernel12.τ).loc Cert.Kernel12.main_arg7)
      ∧ r.2.mem ((c.tc : Thread Cert.Kernel12.nD Cert.Kernel12.τ).loc Cert.Kernel12.main_arg8) = m ((c.tc : Thread Cert.Kernel12.nD Cert.Kernel12.τ).loc Cert.Kernel12.main_arg8)
      ∧ r.2.mem ((c.tc : Thread Cert.Kernel12.nD Cert.Kernel12.τ).loc Cert.Kernel12.main_arg9) = m ((c.tc : Thread Cert.Kernel12.nD Cert.Kernel12.τ).loc Cert.Kernel12.main_arg9))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
      ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
      ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8)
      ∧ r.2.mem ((c.tc : Thread Cert.Kernel12Ideal.nD Cert.Kernel12Ideal.τ).loc Cert.Kernel12Ideal.main_arg9) = m ((c.tc : Thread Cert.Kernel12Ideal.nD Cert.Kernel12Ideal.τ).loc Cert.Kernel12Ideal.main_arg9))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6)
      ∧ r.2.mem ((c.tc : Thread Cert.Reference12Ideal.nD Cert.Reference12Ideal.τ).loc Cert.Reference12Ideal.main_arg7) = m ((c.tc : Thread Cert.Reference12Ideal.nD Cert.Reference12Ideal.τ).loc Cert.Reference12Ideal.main_arg7)
      ∧ r.2.mem ((c.tc : Thread Cert.Reference12Ideal.nD Cert.Reference12Ideal.τ).loc Cert.Reference12Ideal.main_arg8) = m ((c.tc : Thread Cert.Reference12Ideal.nD Cert.Reference12Ideal.τ).loc Cert.Reference12Ideal.main_arg8)
      ∧ r.2.mem ((c.tc : Thread Cert.Reference12Ideal.nD Cert.Reference12Ideal.τ).loc Cert.Reference12Ideal.main_arg9) = m ((c.tc : Thread Cert.Reference12Ideal.nD Cert.Reference12Ideal.τ).loc Cert.Reference12Ideal.main_arg9))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5)
      ∧ r.2.mem ((c.tc : Thread Cert.Kernel13.nD Cert.Kernel13.τ).loc Cert.Kernel13.main_arg6) = m ((c.tc : Thread Cert.Kernel13.nD Cert.Kernel13.τ).loc Cert.Kernel13.main_arg6)
      ∧ r.2.mem ((c.tc : Thread Cert.Kernel13.nD Cert.Kernel13.τ).loc Cert.Kernel13.main_arg7) = m ((c.tc : Thread Cert.Kernel13.nD Cert.Kernel13.τ).loc Cert.Kernel13.main_arg7)
      ∧ r.2.mem ((c.tc : Thread Cert.Kernel13.nD Cert.Kernel13.τ).loc Cert.Kernel13.main_arg8) = m ((c.tc : Thread Cert.Kernel13.nD Cert.Kernel13.τ).loc Cert.Kernel13.main_arg8)
      ∧ r.2.mem ((c.tc : Thread Cert.Kernel13.nD Cert.Kernel13.τ).loc Cert.Kernel13.main_arg9) = m ((c.tc : Thread Cert.Kernel13.nD Cert.Kernel13.τ).loc Cert.Kernel13.main_arg9)
      ∧ r.2.mem ((c.tc : Thread Cert.Kernel13.nD Cert.Kernel13.τ).loc Cert.Kernel13.main_arg10) = m ((c.tc : Thread Cert.Kernel13.nD Cert.Kernel13.τ).loc Cert.Kernel13.main_arg10))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
      ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
      ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7)
      ∧ r.2.mem ((c.tc : Thread Cert.Kernel13Ideal.nD Cert.Kernel13Ideal.τ).loc Cert.Kernel13Ideal.main_arg8) = m ((c.tc : Thread Cert.Kernel13Ideal.nD Cert.Kernel13Ideal.τ).loc Cert.Kernel13Ideal.main_arg8)
      ∧ r.2.mem ((c.tc : Thread Cert.Kernel13Ideal.nD Cert.Kernel13Ideal.τ).loc Cert.Kernel13Ideal.main_arg9) = m ((c.tc : Thread Cert.Kernel13Ideal.nD Cert.Kernel13Ideal.τ).loc Cert.Kernel13Ideal.main_arg9)
      ∧ r.2.mem ((c.tc : Thread Cert.Kernel13Ideal.nD Cert.Kernel13Ideal.τ).loc Cert.Kernel13Ideal.main_arg10) = m ((c.tc : Thread Cert.Kernel13Ideal.nD Cert.Kernel13Ideal.τ).loc Cert.Kernel13Ideal.main_arg10))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v3_0)) (v1 : (c : Dev Cert.Kernel2Ideal.nD) → Buf (Elt Ideal) ((c.tc : Thread Cert.Kernel2Ideal.nD Cert.Kernel2Ideal.τ).loc Cert.Kernel2Ideal.main_v3_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3_0) = v0 c
          ∧ r.2.mem ((c.tc : Thread Cert.Kernel2Ideal.nD Cert.Kernel2Ideal.τ).loc Cert.Kernel2Ideal.main_v3_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v7) = v0 c
          ∧ r.2.mem ((c.tc : Thread Cert.Reference2Ideal.nD Cert.Reference2Ideal.τ).loc Cert.Reference2Ideal.main_v9) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v20) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v5_0)) (v1 : (c : Dev Cert.Kernel7Ideal.nD) → Buf (Elt Ideal) ((c.tc : Thread Cert.Kernel7Ideal.nD Cert.Kernel7Ideal.τ).loc Cert.Kernel7Ideal.main_v5_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v5_0) = v0 c
          ∧ r.2.mem ((c.tc : Thread Cert.Kernel7Ideal.nD Cert.Kernel7Ideal.τ).loc Cert.Kernel7Ideal.main_v5_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v10) = v0 c
          ∧ r.2.mem ((c.tc : Thread Cert.Reference7Ideal.nD Cert.Reference7Ideal.τ).loc Cert.Reference7Ideal.main_v11) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v24) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)) →
    ∃ (v0 : (c : Dev Cert.Kernel10Ideal.nD) → Buf (Elt Ideal) ((c.tc : Thread Cert.Kernel10Ideal.nD Cert.Kernel10Ideal.τ).loc Cert.Kernel10Ideal.main_v4_0)) (v1 : (c : Dev Cert.Kernel10Ideal.nD) → Buf (Elt Ideal) ((c.tc : Thread Cert.Kernel10Ideal.nD Cert.Kernel10Ideal.τ).loc Cert.Kernel10Ideal.main_v4_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v4_0) = v0 c
          ∧ r.2.mem ((c.tc : Thread Cert.Kernel10Ideal.nD Cert.Kernel10Ideal.τ).loc Cert.Kernel10Ideal.main_v4_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v23) = v0 c
          ∧ r.2.mem ((c.tc : Thread Cert.Reference10Ideal.nD Cert.Reference10Ideal.τ).loc Cert.Reference10Ideal.main_v44) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v4_0)) (v1 : (c : Dev Cert.Kernel11Ideal.nD) → Buf (Elt Ideal) ((c.tc : Thread Cert.Kernel11Ideal.nD Cert.Kernel11Ideal.τ).loc Cert.Kernel11Ideal.main_v4_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v4_0) = v0 c
          ∧ r.2.mem ((c.tc : Thread Cert.Kernel11Ideal.nD Cert.Kernel11Ideal.τ).loc Cert.Kernel11Ideal.main_v4_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v6) = v0 c
          ∧ r.2.mem ((c.tc : Thread Cert.Reference11Ideal.nD Cert.Reference11Ideal.τ).loc Cert.Reference11Ideal.main_v7) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)
      ∧ m' ((c.tc : Thread Cert.Reference12Ideal.nD Cert.Reference12Ideal.τ).loc Cert.Reference12Ideal.main_arg7) = m ((c.tc : Thread Cert.Kernel12Ideal.nD Cert.Kernel12Ideal.τ).loc Cert.Kernel12Ideal.main_arg7)
      ∧ m' ((c.tc : Thread Cert.Reference12Ideal.nD Cert.Reference12Ideal.τ).loc Cert.Reference12Ideal.main_arg8) = m ((c.tc : Thread Cert.Kernel12Ideal.nD Cert.Kernel12Ideal.τ).loc Cert.Kernel12Ideal.main_arg8)
      ∧ m' ((c.tc : Thread Cert.Reference12Ideal.nD Cert.Reference12Ideal.τ).loc Cert.Reference12Ideal.main_arg9) = m ((c.tc : Thread Cert.Kernel12Ideal.nD Cert.Kernel12Ideal.τ).loc Cert.Kernel12Ideal.main_arg9)) →
    ∃ (v0 : (c : Dev Cert.Kernel12Ideal.nD) → Buf (Elt Ideal) ((c.tc : Thread Cert.Kernel12Ideal.nD Cert.Kernel12Ideal.τ).loc Cert.Kernel12Ideal.main_v21_0)) (v1 : (c : Dev Cert.Kernel12Ideal.nD) → Buf (Elt Ideal) ((c.tc : Thread Cert.Kernel12Ideal.nD Cert.Kernel12Ideal.τ).loc Cert.Kernel12Ideal.main_v21_1)) (v2 : (c : Dev Cert.Kernel12Ideal.nD) → Buf (Elt Ideal) ((c.tc : Thread Cert.Kernel12Ideal.nD Cert.Kernel12Ideal.τ).loc Cert.Kernel12Ideal.main_v21_2)) (v3 : (c : Dev Cert.Kernel12Ideal.nD) → Buf (Elt Ideal) ((c.tc : Thread Cert.Kernel12Ideal.nD Cert.Kernel12Ideal.τ).loc Cert.Kernel12Ideal.main_v21_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v21_0) = v0 c
          ∧ r.2.mem ((c.tc : Thread Cert.Kernel12Ideal.nD Cert.Kernel12Ideal.τ).loc Cert.Kernel12Ideal.main_v21_1) = v1 c
          ∧ r.2.mem ((c.tc : Thread Cert.Kernel12Ideal.nD Cert.Kernel12Ideal.τ).loc Cert.Kernel12Ideal.main_v21_2) = v2 c
          ∧ r.2.mem ((c.tc : Thread Cert.Kernel12Ideal.nD Cert.Kernel12Ideal.τ).loc Cert.Kernel12Ideal.main_v21_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
          ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
          ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8)
          ∧ r.2.mem ((c.tc : Thread Cert.Kernel12Ideal.nD Cert.Kernel12Ideal.τ).loc Cert.Kernel12Ideal.main_arg9) = m ((c.tc : Thread Cert.Kernel12Ideal.nD Cert.Kernel12Ideal.τ).loc Cert.Kernel12Ideal.main_arg9))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v70) = v0 c
          ∧ r.2.mem ((c.tc : Thread Cert.Reference12Ideal.nD Cert.Reference12Ideal.τ).loc Cert.Reference12Ideal.main_v49) = v1 c
          ∧ r.2.mem ((c.tc : Thread Cert.Reference12Ideal.nD Cert.Reference12Ideal.τ).loc Cert.Reference12Ideal.main_v61) = v2 c
          ∧ r.2.mem ((c.tc : Thread Cert.Reference12Ideal.nD Cert.Reference12Ideal.τ).loc Cert.Reference12Ideal.main_v69) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6)
          ∧ r.2.mem ((c.tc : Thread Cert.Reference12Ideal.nD Cert.Reference12Ideal.τ).loc Cert.Reference12Ideal.main_arg7) = m' ((c.tc : Thread Cert.Reference12Ideal.nD Cert.Reference12Ideal.τ).loc Cert.Reference12Ideal.main_arg7)
          ∧ r.2.mem ((c.tc : Thread Cert.Reference12Ideal.nD Cert.Reference12Ideal.τ).loc Cert.Reference12Ideal.main_arg8) = m' ((c.tc : Thread Cert.Reference12Ideal.nD Cert.Reference12Ideal.τ).loc Cert.Reference12Ideal.main_arg8)
          ∧ r.2.mem ((c.tc : Thread Cert.Reference12Ideal.nD Cert.Reference12Ideal.τ).loc Cert.Reference12Ideal.main_arg9) = m' ((c.tc : Thread Cert.Reference12Ideal.nD Cert.Reference12Ideal.τ).loc Cert.Reference12Ideal.main_arg9))

def preserves_Kernel13_Kernel13Ideal : Prop :=
  True

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v8_0)) (v1 : (c : Dev Cert.Kernel14Ideal.nD) → Buf (Elt Ideal) ((c.tc : Thread Cert.Kernel14Ideal.nD Cert.Kernel14Ideal.τ).loc Cert.Kernel14Ideal.main_v8_1)) (v2 : (c : Dev Cert.Kernel14Ideal.nD) → Buf (Elt Ideal) ((c.tc : Thread Cert.Kernel14Ideal.nD Cert.Kernel14Ideal.τ).loc Cert.Kernel14Ideal.main_v8_2)) (v3 : (c : Dev Cert.Kernel14Ideal.nD) → Buf (Elt Ideal) ((c.tc : Thread Cert.Kernel14Ideal.nD Cert.Kernel14Ideal.τ).loc Cert.Kernel14Ideal.main_v8_3)) (v4 : (c : Dev Cert.Kernel14Ideal.nD) → Buf (Elt Ideal) ((c.tc : Thread Cert.Kernel14Ideal.nD Cert.Kernel14Ideal.τ).loc Cert.Kernel14Ideal.main_v8_4)) (v5 : (c : Dev Cert.Kernel14Ideal.nD) → Buf (Elt Ideal) ((c.tc : Thread Cert.Kernel14Ideal.nD Cert.Kernel14Ideal.τ).loc Cert.Kernel14Ideal.main_v8_5)) (v6 : (c : Dev Cert.Kernel14Ideal.nD) → Buf (Elt Ideal) ((c.tc : Thread Cert.Kernel14Ideal.nD Cert.Kernel14Ideal.τ).loc Cert.Kernel14Ideal.main_v8_6)) (v7 : (c : Dev Cert.Kernel14Ideal.nD) → Buf (Elt Ideal) ((c.tc : Thread Cert.Kernel14Ideal.nD Cert.Kernel14Ideal.τ).loc Cert.Kernel14Ideal.main_v8_7)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v8_0) = v0 c
          ∧ r.2.mem ((c.tc : Thread Cert.Kernel14Ideal.nD Cert.Kernel14Ideal.τ).loc Cert.Kernel14Ideal.main_v8_1) = v1 c
          ∧ r.2.mem ((c.tc : Thread Cert.Kernel14Ideal.nD Cert.Kernel14Ideal.τ).loc Cert.Kernel14Ideal.main_v8_2) = v2 c
          ∧ r.2.mem ((c.tc : Thread Cert.Kernel14Ideal.nD Cert.Kernel14Ideal.τ).loc Cert.Kernel14Ideal.main_v8_3) = v3 c
          ∧ r.2.mem ((c.tc : Thread Cert.Kernel14Ideal.nD Cert.Kernel14Ideal.τ).loc Cert.Kernel14Ideal.main_v8_4) = v4 c
          ∧ r.2.mem ((c.tc : Thread Cert.Kernel14Ideal.nD Cert.Kernel14Ideal.τ).loc Cert.Kernel14Ideal.main_v8_5) = v5 c
          ∧ r.2.mem ((c.tc : Thread Cert.Kernel14Ideal.nD Cert.Kernel14Ideal.τ).loc Cert.Kernel14Ideal.main_v8_6) = v6 c
          ∧ r.2.mem ((c.tc : Thread Cert.Kernel14Ideal.nD Cert.Kernel14Ideal.τ).loc Cert.Kernel14Ideal.main_v8_7) = v7 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v102) = v0 c
          ∧ r.2.mem ((c.tc : Thread Cert.Reference14Ideal.nD Cert.Reference14Ideal.τ).loc Cert.Reference14Ideal.main_v103) = v1 c
          ∧ r.2.mem ((c.tc : Thread Cert.Reference14Ideal.nD Cert.Reference14Ideal.τ).loc Cert.Reference14Ideal.main_v104) = v2 c
          ∧ r.2.mem ((c.tc : Thread Cert.Reference14Ideal.nD Cert.Reference14Ideal.τ).loc Cert.Reference14Ideal.main_v105) = v3 c
          ∧ r.2.mem ((c.tc : Thread Cert.Reference14Ideal.nD Cert.Reference14Ideal.τ).loc Cert.Reference14Ideal.main_v106) = v4 c
          ∧ r.2.mem ((c.tc : Thread Cert.Reference14Ideal.nD Cert.Reference14Ideal.τ).loc Cert.Reference14Ideal.main_v107) = v5 c
          ∧ r.2.mem ((c.tc : Thread Cert.Reference14Ideal.nD Cert.Reference14Ideal.τ).loc Cert.Reference14Ideal.main_v108) = v6 c
          ∧ r.2.mem ((c.tc : Thread Cert.Reference14Ideal.nD Cert.Reference14Ideal.τ).loc Cert.Reference14Ideal.main_v109) = v7 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def Claim : Prop :=
  ∃ (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hKernel14 : Cert.Kernel14.Facts) (hKernel14Ideal : Cert.Kernel14Ideal.Facts) (hReference14Ideal : Cert.Reference14Ideal.Facts),
    quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Kernel14 (hKernel14 := hKernel14)
    ∧ quiescent_Kernel14Ideal (hKernel14Ideal := hKernel14Ideal)
    ∧ quiescent_Reference14Ideal (hReference14Ideal := hReference14Ideal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ preserves_Kernel14_Kernel14Ideal
    ∧ algebraic_Kernel14Ideal_Reference14Ideal (hKernel14Ideal := hKernel14Ideal) (hReference14Ideal := hReference14Ideal)
-- ==== Kernel2.lean ====
abbrev S8192x4096 : Shape := ⟨2, ![8192, 4096]⟩
abbrev S1x4096x11008 : Shape := ⟨3, ![1, 4096, 11008]⟩
abbrev S1x11008x4096 : Shape := ⟨3, ![1, 11008, 4096]⟩
abbrev S4096x11008 : Shape := ⟨2, ![4096, 11008]⟩
abbrev S11008x4096 : Shape := ⟨2, ![11008, 4096]⟩
abbrev S8192x11008 : Shape := ⟨2, ![8192, 11008]⟩
abbrev S2048x4096 : Shape := ⟨2, ![2048, 4096]⟩
abbrev S4096x256 : Shape := ⟨2, ![4096, 256]⟩
abbrev S64x4096 : Shape := ⟨2, ![64, 4096]⟩
abbrev S2048x256 : Shape := ⟨2, ![2048, 256]⟩

abbrev nBuf : Space → Nat
  | .hbm => 9
  | .vmem => 11
  | .smem => 0
  | _ => 0

abbrev bufTy : (tb : Table) → Fin (tcTables nBuf tb) → BufTy
  | .hbm, ⟨0, _⟩ => ⟨S8192x4096, .bf16⟩
  | .hbm, ⟨1, _⟩ => ⟨S1x4096x11008, .f32⟩
  | .hbm, ⟨2, _⟩ => ⟨S1x4096x11008, .f32⟩
  | .hbm, ⟨3, _⟩ => ⟨S1x11008x4096, .f32⟩
  | .hbm, ⟨4, _⟩ => ⟨S4096x11008, .f32⟩
  | .hbm, ⟨5, _⟩ => ⟨S4096x11008, .f32⟩
  | .hbm, ⟨6, _⟩ => ⟨S11008x4096, .f32⟩
  | .hbm, ⟨7, _⟩ => ⟨S8192x11008, .bf16⟩
  | .hbm, ⟨8, _⟩ => ⟨S11008x4096, .bf16⟩
  | .local _ .vmem, ⟨0, _⟩ => ⟨S2048x4096, .bf16⟩
  | .local _ .vmem, ⟨1, _⟩ => ⟨S4096x256, .f32⟩
  | .local _ .vmem, ⟨2, _⟩ => ⟨S4096x256, .f32⟩
  | .local _ .vmem, ⟨3, _⟩ => ⟨S4096x256, .f32⟩
  | .local _ .vmem, ⟨4, _⟩ => ⟨S4096x256, .f32⟩
  | .local _ .vmem, ⟨5, _⟩ => ⟨S64x4096, .f32⟩
  | .local _ .vmem, ⟨6, _⟩ => ⟨S64x4096, .f32⟩
  | .local _ .vmem, ⟨7, _⟩ => ⟨S2048x256, .bf16⟩
  | .local _ .vmem, ⟨8, _⟩ => ⟨S2048x256, .bf16⟩
  | .local _ .vmem, ⟨9, _⟩ => ⟨S64x4096, .bf16⟩
  | .local _ .vmem, ⟨10, _⟩ => ⟨S64x4096, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.muli arg0 c43_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.muli arg0 c43_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S64x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S8192x4096 : Shape := ⟨2, ![8192, 4096]⟩
abbrev S1x4096x11008 : Shape := ⟨3, ![1, 4096, 11008]⟩
abbrev S1x11008x4096 : Shape := ⟨3, ![1, 11008, 4096]⟩
abbrev S4096x11008 : Shape := ⟨2, ![4096, 11008]⟩
abbrev S8192x11008 : Shape := ⟨2, ![8192, 11008]⟩
abbrev S_ : Shape := ⟨0, ![]⟩
abbrev S11008x4096 : Shape := ⟨2, ![11008, 4096]⟩

abbrev nBuf : Space → Nat
  | .hbm => 22
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x11008, .f32⟩
  | .hbm, ⟨2, _⟩ => ⟨S1x4096x11008, .f32⟩
  | .hbm, ⟨3, _⟩ => ⟨S1x11008x4096, .f32⟩
  | .hbm, ⟨4, _⟩ => ⟨S8192x4096, .f32⟩
  | .hbm, ⟨5, _⟩ => ⟨S4096x11008, .f32⟩
  | .hbm, ⟨6, _⟩ => ⟨S8192x11008, .f32⟩
  | .hbm, ⟨7, _⟩ => ⟨S8192x11008, .f32⟩
  | .hbm, ⟨8, _⟩ => ⟨S8192x11008, .f32⟩
  | .hbm, ⟨9, _⟩ => ⟨S_, .f32⟩
  | .hbm, ⟨10, _⟩ => ⟨S8192x11008, .f32⟩
  | .hbm, ⟨11, _⟩ => ⟨S8192x11008, .f32⟩
  | .hbm, ⟨12, _⟩ => ⟨S_, .f32⟩
  | .hbm, ⟨13, _⟩ => ⟨S8192x11008, .f32⟩
  | .hbm, ⟨14, _⟩ => ⟨S8192x11008, .f32⟩
  | .hbm, ⟨15, _⟩ => ⟨S8192x11008, .f32⟩
  | .hbm, ⟨16, _⟩ => ⟨S4096x11008, .f32⟩
  | .hbm, ⟨17, _⟩ => ⟨S8192x11008, .f32⟩
  | .hbm, ⟨18, _⟩ => ⟨S8192x11008, .f32⟩
  | .hbm, ⟨19, _⟩ => ⟨S8192x11008, .bf16⟩
  | .hbm, ⟨20, _⟩ => ⟨S11008x4096, .f32⟩
  | .hbm, ⟨21, _⟩ => ⟨S11008x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩

abbrev nD : Nat := 1
abbrev τ : Topo := Topo.v7x

variable {F : FTy → Type} [FloatOps F]
-- ==== Kernel3.lean ====
abbrev S8192x11008 : Shape := ⟨2, ![8192, 11008]⟩
abbrev S11008x4096 : Shape := ⟨2, ![11008, 4096]⟩
abbrev S8192x4096 : Shape := ⟨2, ![8192, 4096]⟩
abbrev S1024x5504 : Shape := ⟨2, ![1024, 5504]⟩
abbrev S5504x1024 : Shape := ⟨2, ![5504, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x11008, .bf16⟩
  | .hbm, ⟨1, _⟩ => ⟨S11008x4096, .bf16⟩
  | .hbm, ⟨2, _⟩ => ⟨S8192x4096, .bf16⟩
  | .local _ .vmem, ⟨0, _⟩ => ⟨S1024x5504, .bf16⟩
  | .local _ .vmem, ⟨1, _⟩ => ⟨S1024x5504, .bf16⟩
  | .local _ .vmem, ⟨2, _⟩ => ⟨S5504x1024, .bf16⟩
  | .local _ .vmem, ⟨3, _⟩ => ⟨S5504x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x5504 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S5504x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x11008 : Shape := ⟨2, ![8192, 11008]⟩
abbrev S11008x4096 : Shape := ⟨2, ![11008, 4096]⟩
abbrev S8192x4096 : Shape := ⟨2, ![8192, 4096]⟩

abbrev nBuf : Space → Nat
  | .hbm => 6
  | .vmem => 0
  | .smem => 0
  | _ => 0

abbrev bufTy : (tb : Table) → Fin (tcTables nBuf tb) → BufTy
  | .hbm, ⟨0, _⟩ => ⟨S8192x11008, .bf16⟩
  | .hbm, ⟨1, _⟩ => ⟨S11008x4096, .bf16⟩
  | .hbm, ⟨2, _⟩ => ⟨S8192x11008, .f32⟩
  | .hbm, ⟨3, _⟩ => ⟨S11008x4096, .f32⟩
  | .hbm, ⟨4, _⟩ => ⟨S8192x4096, .f32⟩
  | .hbm, ⟨5, _⟩ => ⟨S8192x4096, .bf16⟩
  | _, _ => ⟨S8192x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel4.lean ====
abbrev S8192x4096 : Shape := ⟨2, ![8192, 4096]⟩
abbrev S1x4096 : Shape := ⟨2, ![1, 4096]⟩
abbrev S1x12288 : Shape := ⟨2, ![1, 12288]⟩
abbrev S4096 : Shape := ⟨1, ![4096]⟩
abbrev S256x4096 : Shape := ⟨2, ![256, 4096]⟩
abbrev S256 : Shape := ⟨1, ![256]⟩
abbrev S256x1 : Shape := ⟨2, ![256, 1]⟩

abbrev nBuf : Space → Nat
  | .hbm => 7
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S8192x4096, .bf16⟩
  | .hbm, ⟨2, _⟩ => ⟨S1x4096, .f32⟩
  | .hbm, ⟨3, _⟩ => ⟨S1x12288, .f32⟩
  | .hbm, ⟨4, _⟩ => ⟨S4096, .f32⟩
  | .hbm, ⟨5, _⟩ => ⟨S1x4096, .f32⟩
  | .hbm, ⟨6, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .bf16⟩
  | .local _ .vmem, ⟨3, _⟩ => ⟨S256x4096, .bf16⟩
  | .local _ .vmem, ⟨4, _⟩ => ⟨S1x4096, .f32⟩
  | .local _ .vmem, ⟨5, _⟩ => ⟨S1x4096, .f32⟩
  | .local _ .vmem, ⟨6, _⟩ => ⟨S256x4096, .f32⟩
  | .local _ .vmem, ⟨7, _⟩ => ⟨S256x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference4Ideal.lean ====
abbrev S8192x4096 : Shape := ⟨2, ![8192, 4096]⟩
abbrev S1x4096 : Shape := ⟨2, ![1, 4096]⟩
abbrev S1x12288 : Shape := ⟨2, ![1, 12288]⟩
abbrev S4096 : Shape := ⟨1, ![4096]⟩
abbrev S_ : Shape := ⟨0, ![]⟩
abbrev S8192 : Shape := ⟨1, ![8192]⟩
abbrev S8192x1 : Shape := ⟨2, ![8192, 1]⟩

abbrev nBuf : Space → Nat
  | .hbm => 28
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .bf16⟩
  | .hbm, ⟨2, _⟩ => ⟨S1x4096, .f32⟩
  | .hbm, ⟨3, _⟩ => ⟨S1x12288, .f32⟩
  | .hbm, ⟨4, _⟩ => ⟨S1x4096, .f32⟩
  | .hbm, ⟨5, _⟩ => ⟨S1x4096, .f32⟩
  | .hbm, ⟨6, _⟩ => ⟨S1x4096, .f32⟩
  | .hbm, ⟨7, _⟩ => ⟨S8192x4096, .f32⟩
  | .hbm, ⟨8, _⟩ => ⟨S4096, .f32⟩
  | .hbm, ⟨9, _⟩ => ⟨S8192x4096, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x4096, .f32⟩
  | .hbm, ⟨21, _⟩ => ⟨S8192x4096, .f32⟩
  | .hbm, ⟨22, _⟩ => ⟨S1x4096, .f32⟩
  | .hbm, ⟨23, _⟩ => ⟨S8192x4096, .f32⟩
  | .hbm, ⟨24, _⟩ => ⟨S8192x4096, .f32⟩
  | .hbm, ⟨25, _⟩ => ⟨S8192x4096, .f32⟩
  | .hbm, ⟨26, _⟩ => ⟨S8192x4096, .f32⟩
  | .hbm, ⟨27, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Kernel5.lean ====
abbrev S8192x4096 : Shape := ⟨2, ![8192, 4096]⟩
abbrev S1x4096x16096 : Shape := ⟨3, ![1, 4096, 16096]⟩
abbrev S4096x16096 : Shape := ⟨2, ![4096, 16096]⟩
abbrev S16096x4096 : Shape := ⟨2, ![16096, 4096]⟩
abbrev S8192x6144 : Shape := ⟨2, ![8192, 6144]⟩
abbrev S1024x4096 : Shape := ⟨2, ![1024, 4096]⟩
abbrev S512x4096 : Shape := ⟨2, ![512, 4096]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S1x4096x16096, .f32⟩
  | .hbm, ⟨2, _⟩ => ⟨S4096x16096, .f32⟩
  | .hbm, ⟨3, _⟩ => ⟨S16096x4096, .f32⟩
  | .hbm, ⟨4, _⟩ => ⟨S8192x6144, .f32⟩
  | .local _ .vmem, ⟨0, _⟩ => ⟨S1024x4096, .bf16⟩
  | .local _ .vmem, ⟨1, _⟩ => ⟨S1024x4096, .bf16⟩
  | .local _ .vmem, ⟨2, _⟩ => ⟨S512x4096, .f32⟩
  | .local _ .vmem, ⟨3, _⟩ => ⟨S512x4096, .f32⟩
  | .local _ .vmem, ⟨4, _⟩ => ⟨S1024x512, .f32⟩
  | .local _ .vmem, ⟨5, _⟩ => ⟨S1024x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 12], ![false, false]⟩

def k0_mult1 (i : grid0.Coords) : BitVec 32 :=
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c0_i32 : BitVec 32 := 0#32
  let v1 : BitVec 32 := Scalar.addi c0_i32 v0
  let v2 : BitVec 32 := v1
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S8192x4096 : Shape := ⟨2, ![8192, 4096]⟩
abbrev S1x4096x16096 : Shape := ⟨3, ![1, 4096, 16096]⟩
abbrev S4096x16096 : Shape := ⟨2, ![4096, 16096]⟩
abbrev S8192x16096 : Shape := ⟨2, ![8192, 16096]⟩
abbrev S8192x6144 : Shape := ⟨2, ![8192, 6144]⟩

abbrev nBuf : Space → Nat
  | .hbm => 6
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x16096, .f32⟩
  | .hbm, ⟨2, _⟩ => ⟨S8192x4096, .f32⟩
  | .hbm, ⟨3, _⟩ => ⟨S4096x16096, .f32⟩
  | .hbm, ⟨4, _⟩ => ⟨S8192x16096, .f32⟩
  | .hbm, ⟨5, _⟩ => ⟨S8192x6144, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel6.lean ====
abbrev S8192x4096 : Shape := ⟨2, ![8192, 4096]⟩
abbrev S1x4096x16096 : Shape := ⟨3, ![1, 4096, 16096]⟩
abbrev S4096x16096 : Shape := ⟨2, ![4096, 16096]⟩
abbrev S16096x4096 : Shape := ⟨2, ![16096, 4096]⟩
abbrev S8192x1024 : Shape := ⟨2, ![8192, 1024]⟩
abbrev S1024x4096 : Shape := ⟨2, ![1024, 4096]⟩
abbrev S512x4096 : Shape := ⟨2, ![512, 4096]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S1x4096x16096, .f32⟩
  | .hbm, ⟨2, _⟩ => ⟨S4096x16096, .f32⟩
  | .hbm, ⟨3, _⟩ => ⟨S16096x4096, .f32⟩
  | .hbm, ⟨4, _⟩ => ⟨S8192x1024, .f32⟩
  | .local _ .vmem, ⟨0, _⟩ => ⟨S1024x4096, .bf16⟩
  | .local _ .vmem, ⟨1, _⟩ => ⟨S1024x4096, .bf16⟩
  | .local _ .vmem, ⟨2, _⟩ => ⟨S512x4096, .f32⟩
  | .local _ .vmem, ⟨3, _⟩ => ⟨S512x4096, .f32⟩
  | .local _ .vmem, ⟨4, _⟩ => ⟨S1024x512, .f32⟩
  | .local _ .vmem, ⟨5, _⟩ => ⟨S1024x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def k0_mult1 (i : grid0.Coords) : BitVec 32 :=
  let c6880_i32 : BitVec 32 := 6880#32
  let arg1 : BitVec 32 := BitVec.ofNat 32 (i 1).val
  let c512_i32 : BitVec 32 := 512#32
  let v0 : BitVec 32 := Scalar.muli arg1 c512_i32
  let v1 : BitVec 32 := Scalar.addi c6880_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c6880_i32 : BitVec 32 := 6880#32
  let v1 : BitVec 32 := Scalar.addi c6880_i32 v0
  let v2 : BitVec 32 := v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S8192x4096 : Shape := ⟨2, ![8192, 4096]⟩
abbrev S1x4096x16096 : Shape := ⟨3, ![1, 4096, 16096]⟩
abbrev S4096x16096 : Shape := ⟨2, ![4096, 16096]⟩
abbrev S8192x16096 : Shape := ⟨2, ![8192, 16096]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x16096, .f32⟩
  | .hbm, ⟨2, _⟩ => ⟨S8192x4096, .f32⟩
  | .hbm, ⟨3, _⟩ => ⟨S4096x16096, .f32⟩
  | .hbm, ⟨4, _⟩ => ⟨S8192x16096, .f32⟩
  | .hbm, ⟨5, _⟩ => ⟨S8192x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel7.lean ====
abbrev S8192x4096 : Shape := ⟨2, ![8192, 4096]⟩
abbrev S1x4096x16096 : Shape := ⟨3, ![1, 4096, 16096]⟩
abbrev S4096x1 : Shape := ⟨2, ![4096, 1]⟩
abbrev S1x4096x24576 : Shape := ⟨3, ![1, 4096, 24576]⟩
abbrev S1x24576 : Shape := ⟨2, ![1, 24576]⟩
abbrev S4096x16096 : Shape := ⟨2, ![4096, 16096]⟩
abbrev S16096x4096 : Shape := ⟨2, ![16096, 4096]⟩
abbrev S4096x24576 : Shape := ⟨2, ![4096, 24576]⟩
abbrev S24576 : Shape := ⟨1, ![24576]⟩
abbrev S8192x8192 : Shape := ⟨2, ![8192, 8192]⟩
abbrev S1x12288 : Shape := ⟨2, ![1, 12288]⟩
abbrev S1024x4096 : Shape := ⟨2, ![1024, 4096]⟩
abbrev S512x4096 : Shape := ⟨2, ![512, 4096]⟩
abbrev S4096x128 : Shape := ⟨2, ![4096, 128]⟩
abbrev S1x128 : Shape := ⟨2, ![1, 128]⟩
abbrev S1024x512 : Shape := ⟨2, ![1024, 512]⟩
abbrev S8x128 : Shape := ⟨2, ![8, 128]⟩
abbrev S512x128 : Shape := ⟨2, ![512, 128]⟩
abbrev S512x1 : Shape := ⟨2, ![512, 1]⟩
abbrev S64x8x128 : Shape := ⟨3, ![64, 8, 128]⟩
abbrev S128 : Shape := ⟨1, ![128]⟩

abbrev nBuf : Space → Nat
  | .hbm => 12
  | .vmem => 13
  | .smem => 0
  | _ => 0

abbrev bufTy : (tb : Table) → Fin (tcTables nBuf tb) → BufTy
  | .hbm, ⟨0, _⟩ => ⟨S8192x4096, .bf16⟩
  | .hbm, ⟨1, _⟩ => ⟨S1x4096x16096, .f32⟩
  | .hbm, ⟨2, _⟩ => ⟨S4096x1, .f32⟩
  | .hbm, ⟨3, _⟩ => ⟨S1x4096x24576, .f32⟩
  | .hbm, ⟨4, _⟩ => ⟨S1x24576, .f32⟩
  | .hbm, ⟨5, _⟩ => ⟨S4096x16096, .f32⟩
  | .hbm, ⟨6, _⟩ => ⟨S16096x4096, .f32⟩
  | .hbm, ⟨7, _⟩ => ⟨S4096x24576, .f32⟩
  | .hbm, ⟨8, _⟩ => ⟨S24576, .f32⟩
  | .hbm, ⟨9, _⟩ => ⟨S1x24576, .f32⟩
  | .hbm, ⟨10, _⟩ => ⟨S8192x8192, .bf16⟩
  | .hbm, ⟨11, _⟩ => ⟨S1x12288, .f32⟩
  | .local _ .vmem, ⟨0, _⟩ => ⟨S1024x4096, .bf16⟩
  | .local _ .vmem, ⟨1, _⟩ => ⟨S1024x4096, .bf16⟩
  | .local _ .vmem, ⟨2, _⟩ => ⟨S512x4096, .f32⟩
  | .local _ .vmem, ⟨3, _⟩ => ⟨S512x4096, .f32⟩
  | .local _ .vmem, ⟨4, _⟩ => ⟨S4096x1, .f32⟩
  | .local _ .vmem, ⟨5, _⟩ => ⟨S4096x128, .f32⟩
  | .local _ .vmem, ⟨6, _⟩ => ⟨S4096x128, .f32⟩
  | .local _ .vmem, ⟨7, _⟩ => ⟨S1x128, .f32⟩
  | .local _ .vmem, ⟨8, _⟩ => ⟨S1x128, .f32⟩
  | .local _ .vmem, ⟨9, _⟩ => ⟨S1024x512, .bf16⟩
  | .local _ .vmem, ⟨10, _⟩ => ⟨S1024x512, .bf16⟩
  | .local _ .vmem, ⟨11, _⟩ => ⟨S1x128, .f32⟩
  | .local _ .vmem, ⟨12, _⟩ => ⟨S1x128, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 16], ![false, false]⟩

def k0_mult1 (i : grid0.Coords) : BitVec 32 :=
  let c7904_i32 : BitVec 32 := 7904#32
  let arg1 : BitVec 32 := BitVec.ofNat 32 (i 1).val
  let c512_i32 : BitVec 32 := 512#32
  let v0 : BitVec 32 := Scalar.muli arg1 c512_i32
  let v1 : BitVec 32 := Scalar.addi c7904_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c7904_i32 : BitVec 32 := 7904#32
  let v1 : BitVec 32 := Scalar.addi c7904_i32 v0
  let v2 : BitVec 32 := v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c95_i32 : BitVec 32 := 95#32
  let v2 : BitVec 32 := Scalar.minsi v1 c95_i32
  let c96_i32 : BitVec 32 := 96#32
  let v3 : BitVec 32 := Scalar.addi c96_i32 v2
  let c0_i32 : BitVec 32 := 0#32
  let c0_i32_0 : BitVec 32 := 0#32
  ![c0_i32.toNat, v3.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c95_i32 : BitVec 32 := 95#32
  let v2 : BitVec 32 := Scalar.minsi v1 c95_i32
  let c96_i32 : BitVec 32 := 96#32
  let v3 : BitVec 32 := Scalar.addi c96_i32 v2
  let c0_i32 : BitVec 32 := 0#32
  let c0_i32_0 : BitVec 32 := 0#32
  ![c0_i32.toNat, v3.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c95_i32 : BitVec 32 := 95#32
  let v2 : BitVec 32 := Scalar.minsi v1 c95_i32
  let c0_i32 : BitVec 32 := 0#32
  let c0_i32_0 : BitVec 32 := 0#32
  ![c0_i32.toNat, v2.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S4096x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference7Ideal.lean ====
abbrev S8192x4096 : Shape := ⟨2, ![8192, 4096]⟩
abbrev S1x4096x16096 : Shape := ⟨3, ![1, 4096, 16096]⟩
abbrev S4096x1 : Shape := ⟨2, ![4096, 1]⟩
abbrev S1x4096x24576 : Shape := ⟨3, ![1, 4096, 24576]⟩
abbrev S1x24576 : Shape := ⟨2, ![1, 24576]⟩
abbrev S4096x16096 : Shape := ⟨2, ![4096, 16096]⟩
abbrev S8192x16096 : Shape := ⟨2, ![8192, 16096]⟩
abbrev S1x4096 : Shape := ⟨2, ![1, 4096]⟩
abbrev S4096x24576 : Shape := ⟨2, ![4096, 24576]⟩
abbrev S24576 : Shape := ⟨1, ![24576]⟩
abbrev S8192x8192 : Shape := ⟨2, ![8192, 8192]⟩
abbrev S1x12288 : Shape := ⟨2, ![1, 12288]⟩

abbrev nBuf : Space → Nat
  | .hbm => 17
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x16096, .f32⟩
  | .hbm, ⟨2, _⟩ => ⟨S4096x1, .f32⟩
  | .hbm, ⟨3, _⟩ => ⟨S1x4096x24576, .f32⟩
  | .hbm, ⟨4, _⟩ => ⟨S1x24576, .f32⟩
  | .hbm, ⟨5, _⟩ => ⟨S8192x4096, .f32⟩
  | .hbm, ⟨6, _⟩ => ⟨S4096x16096, .f32⟩
  | .hbm, ⟨7, _⟩ => ⟨S8192x16096, .f32⟩
  | .hbm, ⟨8, _⟩ => ⟨S1x4096, .f32⟩
  | .hbm, ⟨9, _⟩ => ⟨S4096x24576, .f32⟩
  | .hbm, ⟨10, _⟩ => ⟨S1x24576, .f32⟩
  | .hbm, ⟨11, _⟩ => ⟨S24576, .f32⟩
  | .hbm, ⟨12, _⟩ => ⟨S1x24576, .f32⟩
  | .hbm, ⟨13, _⟩ => ⟨S1x24576, .f32⟩
  | .hbm, ⟨14, _⟩ => ⟨S8192x8192, .f32⟩
  | .hbm, ⟨15, _⟩ => ⟨S8192x8192, .bf16⟩
  | .hbm, ⟨16, _⟩ => ⟨S1x12288, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Kernel8.lean ====
abbrev S8192x2048 : Shape := ⟨2, ![8192, 2048]⟩
abbrev S8192x1024 : Shape := ⟨2, ![8192, 1024]⟩
abbrev S1x2048x4096 : Shape := ⟨3, ![1, 2048, 4096]⟩
abbrev S1x1024x4096 : Shape := ⟨3, ![1, 1024, 4096]⟩
abbrev S8192x8192 : Shape := ⟨2, ![8192, 8192]⟩
abbrev S2048x4096 : Shape := ⟨2, ![2048, 4096]⟩
abbrev S1024x4096 : Shape := ⟨2, ![1024, 4096]⟩
abbrev S8192x4096 : Shape := ⟨2, ![8192, 4096]⟩
abbrev S1024x2048 : Shape := ⟨2, ![1024, 2048]⟩
abbrev S1024x1024 : Shape := ⟨2, ![1024, 1024]⟩
abbrev S2048x512 : Shape := ⟨2, ![2048, 512]⟩
abbrev S1024x512 : Shape := ⟨2, ![1024, 512]⟩

abbrev nBuf : Space → Nat
  | .hbm => 8
  | .vmem => 14
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S1x2048x4096, .f32⟩
  | .hbm, ⟨3, _⟩ => ⟨S1x1024x4096, .f32⟩
  | .hbm, ⟨4, _⟩ => ⟨S8192x8192, .bf16⟩
  | .hbm, ⟨5, _⟩ => ⟨S2048x4096, .f32⟩
  | .hbm, ⟨6, _⟩ => ⟨S1024x4096, .f32⟩
  | .hbm, ⟨7, _⟩ => ⟨S8192x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1024x1024, .bf16⟩
  | .local _ .vmem, ⟨3, _⟩ => ⟨S1024x1024, .bf16⟩
  | .local _ .vmem, ⟨4, _⟩ => ⟨S2048x512, .f32⟩
  | .local _ .vmem, ⟨5, _⟩ => ⟨S2048x512, .f32⟩
  | .local _ .vmem, ⟨6, _⟩ => ⟨S1024x512, .f32⟩
  | .local _ .vmem, ⟨7, _⟩ => ⟨S1024x512, .f32⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg1 c8_i32
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference8Ideal.lean ====
abbrev S8192x2048 : Shape := ⟨2, ![8192, 2048]⟩
abbrev S8192x1024 : Shape := ⟨2, ![8192, 1024]⟩
abbrev S1x2048x4096 : Shape := ⟨3, ![1, 2048, 4096]⟩
abbrev S1x1024x4096 : Shape := ⟨3, ![1, 1024, 4096]⟩
abbrev S8192x8192 : Shape := ⟨2, ![8192, 8192]⟩
abbrev S8192x4096 : Shape := ⟨2, ![8192, 4096]⟩
abbrev S_ : Shape := ⟨0, ![]⟩
abbrev S2048x4096 : Shape := ⟨2, ![2048, 4096]⟩
abbrev S1024x4096 : Shape := ⟨2, ![1024, 4096]⟩

abbrev nBuf : Space → Nat
  | .hbm => 34
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S1x2048x4096, .f32⟩
  | .hbm, ⟨3, _⟩ => ⟨S1x1024x4096, .f32⟩
  | .hbm, ⟨4, _⟩ => ⟨S8192x8192, .bf16⟩
  | .hbm, ⟨5, _⟩ => ⟨S8192x8192, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S_, .f32⟩
  | .hbm, ⟨11, _⟩ => ⟨S8192x4096, .f32⟩
  | .hbm, ⟨12, _⟩ => ⟨S8192x4096, .f32⟩
  | .hbm, ⟨13, _⟩ => ⟨S_, .f32⟩
  | .hbm, ⟨14, _⟩ => ⟨S8192x4096, .f32⟩
  | .hbm, ⟨15, _⟩ => ⟨S8192x4096, .f32⟩
  | .hbm, ⟨16, _⟩ => ⟨S8192x2048, .f32⟩
  | .hbm, ⟨17, _⟩ => ⟨S2048x4096, .f32⟩
  | .hbm, ⟨18, _⟩ => ⟨S8192x4096, .f32⟩
  | .hbm, ⟨19, _⟩ => ⟨S8192x4096, .f32⟩
  | .hbm, ⟨20, _⟩ => ⟨S8192x4096, .f32⟩
  | .hbm, ⟨21, _⟩ => ⟨S8192x4096, .f32⟩
  | .hbm, ⟨22, _⟩ => ⟨S_, .f32⟩
  | .hbm, ⟨23, _⟩ => ⟨S8192x4096, .f32⟩
  | .hbm, ⟨24, _⟩ => ⟨S8192x4096, .f32⟩
  | .hbm, ⟨25, _⟩ => ⟨S_, .f32⟩
  | .hbm, ⟨26, _⟩ => ⟨S8192x4096, .f32⟩
  | .hbm, ⟨27, _⟩ => ⟨S8192x4096, .f32⟩
  | .hbm, ⟨28, _⟩ => ⟨S8192x1024, .f32⟩
  | .hbm, ⟨29, _⟩ => ⟨S1024x4096, .f32⟩
  | .hbm, ⟨30, _⟩ => ⟨S8192x4096, .f32⟩
  | .hbm, ⟨31, _⟩ => ⟨S8192x4096, .f32⟩
  | .hbm, ⟨32, _⟩ => ⟨S8192x4096, .f32⟩
  | .hbm, ⟨33, _⟩ => ⟨S8192x4096, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== Kernel9.lean ====
abbrev S8192x4096 : Shape := ⟨2, ![8192, 4096]⟩
abbrev S1x4096x4096 : Shape := ⟨3, ![1, 4096, 4096]⟩
abbrev S4096x4096 : Shape := ⟨2, ![4096, 4096]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S1x4096x4096, .f32⟩
  | .hbm, ⟨2, _⟩ => ⟨S4096x4096, .f32⟩
  | .hbm, ⟨3, _⟩ => ⟨S8192x4096, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .f32⟩
  | .local _ .vmem, ⟨3, _⟩ => ⟨S4096x512, .f32⟩
  | .local _ .vmem, ⟨4, _⟩ => ⟨S1024x512, .bf16⟩
  | .local _ .vmem, ⟨5, _⟩ => ⟨S1024x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S8192x4096 : Shape := ⟨2, ![8192, 4096]⟩
abbrev S1x4096x4096 : Shape := ⟨3, ![1, 4096, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x4096, .f32⟩
  | .hbm, ⟨2, _⟩ => ⟨S8192x4096, .f32⟩
  | .hbm, ⟨3, _⟩ => ⟨S4096x4096, .f32⟩
  | .hbm, ⟨4, _⟩ => ⟨S8192x4096, .f32⟩
  | .hbm, ⟨5, _⟩ => ⟨S8192x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel10.lean ====
abbrev S8192x4096 : Shape := ⟨2, ![8192, 4096]⟩
abbrev S1x4096 : Shape := ⟨2, ![1, 4096]⟩
abbrev S1x12288 : Shape := ⟨2, ![1, 12288]⟩
abbrev S4096 : Shape := ⟨1, ![4096]⟩
abbrev S256x4096 : Shape := ⟨2, ![256, 4096]⟩
abbrev S256 : Shape := ⟨1, ![256]⟩
abbrev S256x1 : Shape := ⟨2, ![256, 1]⟩

abbrev nBuf : Space → Nat
  | .hbm => 12
  | .vmem => 13
  | .smem => 0
  | _ => 0

abbrev bufTy : (tb : Table) → Fin (tcTables nBuf tb) → BufTy
  | .hbm, ⟨0, _⟩ => ⟨S8192x4096, .f32⟩
  | .hbm, ⟨1, _⟩ => ⟨S8192x4096, .bf16⟩
  | .hbm, ⟨2, _⟩ => ⟨S1x4096, .f32⟩
  | .hbm, ⟨3, _⟩ => ⟨S1x4096, .f32⟩
  | .hbm, ⟨4, _⟩ => ⟨S1x12288, .f32⟩
  | .hbm, ⟨5, _⟩ => ⟨S1x12288, .f32⟩
  | .hbm, ⟨6, _⟩ => ⟨S4096, .f32⟩
  | .hbm, ⟨7, _⟩ => ⟨S1x4096, .f32⟩
  | .hbm, ⟨8, _⟩ => ⟨S4096, .f32⟩
  | .hbm, ⟨9, _⟩ => ⟨S1x4096, .f32⟩
  | .hbm, ⟨10, _⟩ => ⟨S8192x4096, .f32⟩
  | .hbm, ⟨11, _⟩ => ⟨S8192x4096, .bf16⟩
  | .local _ .vmem, ⟨0, _⟩ => ⟨S256x4096, .f32⟩
  | .local _ .vmem, ⟨1, _⟩ => ⟨S256x4096, .f32⟩
  | .local _ .vmem, ⟨2, _⟩ => ⟨S256x4096, .bf16⟩
  | .local _ .vmem, ⟨3, _⟩ => ⟨S256x4096, .bf16⟩
  | .local _ .vmem, ⟨4, _⟩ => ⟨S1x4096, .f32⟩
  | .local _ .vmem, ⟨5, _⟩ => ⟨S1x4096, .f32⟩
  | .local _ .vmem, ⟨6, _⟩ => ⟨S1x4096, .f32⟩
  | .local _ .vmem, ⟨7, _⟩ => ⟨S1x4096, .f32⟩
  | .local _ .vmem, ⟨8, _⟩ => ⟨S1x4096, .f32⟩
  | .local _ .vmem, ⟨9, _⟩ => ⟨S256x4096, .f32⟩
  | .local _ .vmem, ⟨10, _⟩ => ⟨S256x4096, .f32⟩
  | .local _ .vmem, ⟨11, _⟩ => ⟨S256x4096, .bf16⟩
  | .local _ .vmem, ⟨12, _⟩ => ⟨S256x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference10Ideal.lean ====
abbrev S8192x4096 : Shape := ⟨2, ![8192, 4096]⟩
abbrev S1x4096 : Shape := ⟨2, ![1, 4096]⟩
abbrev S1x12288 : Shape := ⟨2, ![1, 12288]⟩
abbrev S4096 : Shape := ⟨1, ![4096]⟩
abbrev S_ : Shape := ⟨0, ![]⟩
abbrev S8192 : Shape := ⟨1, ![8192]⟩
abbrev S8192x1 : Shape := ⟨2, ![8192, 1]⟩

abbrev nBuf : Space → Nat
  | .hbm => 58
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .bf16⟩
  | .hbm, ⟨2, _⟩ => ⟨S1x4096, .f32⟩
  | .hbm, ⟨3, _⟩ => ⟨S1x4096, .f32⟩
  | .hbm, ⟨4, _⟩ => ⟨S1x12288, .f32⟩
  | .hbm, ⟨5, _⟩ => ⟨S1x12288, .f32⟩
  | .hbm, ⟨6, _⟩ => ⟨S1x4096, .f32⟩
  | .hbm, ⟨7, _⟩ => ⟨S1x4096, .f32⟩
  | .hbm, ⟨8, _⟩ => ⟨S1x4096, .f32⟩
  | .hbm, ⟨9, _⟩ => ⟨S1x4096, .f32⟩
  | .hbm, ⟨10, _⟩ => ⟨S1x4096, .f32⟩
  | .hbm, ⟨11, _⟩ => ⟨S1x4096, .f32⟩
  | .hbm, ⟨12, _⟩ => ⟨S8192x4096, .f32⟩
  | .hbm, ⟨13, _⟩ => ⟨S4096, .f32⟩
  | .hbm, ⟨14, _⟩ => ⟨S8192x4096, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S8192x4096, .f32⟩
  | .hbm, ⟨26, _⟩ => ⟨S8192x4096, .f32⟩
  | .hbm, ⟨27, _⟩ => ⟨S1x4096, .f32⟩
  | .hbm, ⟨28, _⟩ => ⟨S8192x4096, .f32⟩
  | .hbm, ⟨29, _⟩ => ⟨S8192x4096, .f32⟩
  | .hbm, ⟨30, _⟩ => ⟨S8192x4096, .f32⟩
  | .hbm, ⟨31, _⟩ => ⟨S8192x4096, .f32⟩
  | .hbm, ⟨32, _⟩ => ⟨S8192x4096, .f32⟩
  | .hbm, ⟨33, _⟩ => ⟨S4096, .f32⟩
  | .hbm, ⟨34, _⟩ => ⟨S8192x4096, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S8192x1, .f32⟩
  | .hbm, ⟨45, _⟩ => ⟨S8192x4096, .f32⟩
  | .hbm, ⟨46, _⟩ => ⟨S8192x4096, .f32⟩
  | .hbm, ⟨47, _⟩ => ⟨S1x4096, .f32⟩
  | .hbm, ⟨48, _⟩ => ⟨S8192x4096, .f32⟩
  | .hbm, ⟨49, _⟩ => ⟨S8192x4096, .f32⟩
  | .hbm, ⟨50, _⟩ => ⟨S_, .f32⟩
  | .hbm, ⟨51, _⟩ => ⟨S1x4096, .f32⟩
  | .hbm, ⟨52, _⟩ => ⟨S1x4096, .f32⟩
  | .hbm, ⟨53, _⟩ => ⟨S8192x4096, .f32⟩
  | .hbm, ⟨54, _⟩ => ⟨S8192x4096, .f32⟩
  | .hbm, ⟨55, _⟩ => ⟨S8192x4096, .f32⟩
  | .hbm, ⟨56, _⟩ => ⟨S8192x4096, .f32⟩
  | .hbm, ⟨57, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_5 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩

abbrev nD : Nat := 1
abbrev τ : Topo := Topo.v7x

variable {F : FTy → Type} [FloatOps F]
-- ==== Kernel11.lean ====
abbrev S1x4096 : Shape := ⟨2, ![1, 4096]⟩
abbrev S1x4096x24576 : Shape := ⟨3, ![1, 4096, 24576]⟩
abbrev S1x24576 : Shape := ⟨2, ![1, 24576]⟩
abbrev S4096x1 : Shape := ⟨2, ![4096, 1]⟩
abbrev S4096x24576 : Shape := ⟨2, ![4096, 24576]⟩
abbrev S24576 : Shape := ⟨1, ![24576]⟩
abbrev S1x12288 : Shape := ⟨2, ![1, 12288]⟩
abbrev S4096x512 : Shape := ⟨2, ![4096, 512]⟩
abbrev S1x512 : Shape := ⟨2, ![1, 512]⟩
abbrev S8x512 : Shape := ⟨2, ![8, 512]⟩
abbrev S512x512 : Shape := ⟨2, ![512, 512]⟩
abbrev S512x1 : Shape := ⟨2, ![512, 1]⟩
abbrev S64x8x512 : Shape := ⟨3, ![64, 8, 512]⟩
abbrev S512 : Shape := ⟨1, ![512]⟩

abbrev nBuf : Space → Nat
  | .hbm => 9
  | .vmem => 8
  | .smem => 0
  | _ => 0

abbrev bufTy : (tb : Table) → Fin (tcTables nBuf tb) → BufTy
  | .hbm, ⟨0, _⟩ => ⟨S1x4096, .f32⟩
  | .hbm, ⟨1, _⟩ => ⟨S1x4096x24576, .f32⟩
  | .hbm, ⟨2, _⟩ => ⟨S1x24576, .f32⟩
  | .hbm, ⟨3, _⟩ => ⟨S4096x1, .f32⟩
  | .hbm, ⟨4, _⟩ => ⟨S4096x24576, .f32⟩
  | .hbm, ⟨5, _⟩ => ⟨S24576, .f32⟩
  | .hbm, ⟨6, _⟩ => ⟨S1x24576, .f32⟩
  | .hbm, ⟨7, _⟩ => ⟨S1x12288, .f32⟩
  | .hbm, ⟨8, _⟩ => ⟨S4096x1, .f32⟩
  | .local _ .vmem, ⟨0, _⟩ => ⟨S4096x1, .f32⟩
  | .local _ .vmem, ⟨1, _⟩ => ⟨S4096x512, .f32⟩
  | .local _ .vmem, ⟨2, _⟩ => ⟨S4096x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S4096x1, .f32⟩
  | _, _ => ⟨S1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4096x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference11Ideal.lean ====
abbrev S1x4096 : Shape := ⟨2, ![1, 4096]⟩
abbrev S1x4096x24576 : Shape := ⟨3, ![1, 4096, 24576]⟩
abbrev S1x24576 : Shape := ⟨2, ![1, 24576]⟩
abbrev S_ : Shape := ⟨0, ![]⟩
abbrev S4096x24576 : Shape := ⟨2, ![4096, 24576]⟩
abbrev S24576 : Shape := ⟨1, ![24576]⟩
abbrev S1x12288 : Shape := ⟨2, ![1, 12288]⟩
abbrev S4096x1 : Shape := ⟨2, ![4096, 1]⟩

abbrev nBuf : Space → Nat
  | .hbm => 19
  | .vmem => 0
  | .smem => 0
  | _ => 0

abbrev bufTy : (tb : Table) → Fin (tcTables nBuf tb) → BufTy
  | .hbm, ⟨0, _⟩ => ⟨S1x4096, .f32⟩
  | .hbm, ⟨1, _⟩ => ⟨S1x4096x24576, .f32⟩
  | .hbm, ⟨2, _⟩ => ⟨S1x24576, .f32⟩
  | .hbm, ⟨3, _⟩ => ⟨S1x4096, .f32⟩
  | .hbm, ⟨4, _⟩ => ⟨S1x4096, .f32⟩
  | .hbm, ⟨5, _⟩ => ⟨S_, .f32⟩
  | .hbm, ⟨6, _⟩ => ⟨S1x4096, .f32⟩
  | .hbm, ⟨7, _⟩ => ⟨S1x4096, .f32⟩
  | .hbm, ⟨8, _⟩ => ⟨S_, .f32⟩
  | .hbm, ⟨9, _⟩ => ⟨S1x4096, .f32⟩
  | .hbm, ⟨10, _⟩ => ⟨S1x4096, .f32⟩
  | .hbm, ⟨11, _⟩ => ⟨S1x4096, .f32⟩
  | .hbm, ⟨12, _⟩ => ⟨S4096x24576, .f32⟩
  | .hbm, ⟨13, _⟩ => ⟨S1x24576, .f32⟩
  | .hbm, ⟨14, _⟩ => ⟨S24576, .f32⟩
  | .hbm, ⟨15, _⟩ => ⟨S1x24576, .f32⟩
  | .hbm, ⟨16, _⟩ => ⟨S1x24576, .f32⟩
  | .hbm, ⟨17, _⟩ => ⟨S1x12288, .f32⟩
  | .hbm, ⟨18, _⟩ => ⟨S4096x1, .f32⟩
  | _, _ => ⟨S1x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩

abbrev nD : Nat := 1
abbrev τ : Topo := Topo.v7x

variable {F : FTy → Type} [FloatOps F]
-- ==== Kernel12.lean ====
abbrev S8192x4096 : Shape := ⟨2, ![8192, 4096]⟩
abbrev S1x4096 : Shape := ⟨2, ![1, 4096]⟩
abbrev S1x12288 : Shape := ⟨2, ![1, 12288]⟩
abbrev S1x4096x16096 : Shape := ⟨3, ![1, 4096, 16096]⟩
abbrev S1x6880 : Shape := ⟨2, ![1, 6880]⟩
abbrev S1x2048 : Shape := ⟨2, ![1, 2048]⟩
abbrev S1x128x2048 : Shape := ⟨3, ![1, 128, 2048]⟩
abbrev S1x480x2048 : Shape := ⟨3, ![1, 480, 2048]⟩
abbrev S4096x16096 : Shape := ⟨2, ![4096, 16096]⟩
abbrev S16096x4096 : Shape := ⟨2, ![16096, 4096]⟩
abbrev S1x736 : Shape := ⟨2, ![1, 736]⟩
abbrev S736 : Shape := ⟨1, ![736]⟩
abbrev S_ : Shape := ⟨0, ![]⟩
abbrev S32 : Shape := ⟨1, ![32]⟩
abbrev S768 : Shape := ⟨1, ![768]⟩
abbrev S1x768 : Shape := ⟨2, ![1, 768]⟩
abbrev S480x2048 : Shape := ⟨2, ![480, 2048]⟩
abbrev S32x2048 : Shape := ⟨2, ![32, 2048]⟩
abbrev S512x2048 : Shape := ⟨2, ![512, 2048]⟩
abbrev S4096 : Shape := ⟨1, ![4096]⟩
abbrev S2048 : Shape := ⟨1, ![2048]⟩
abbrev S128x2048 : Shape := ⟨2, ![128, 2048]⟩
abbrev S8192x2048 : Shape := ⟨2, ![8192, 2048]⟩
abbrev S256x4096 : Shape := ⟨2, ![256, 4096]⟩
abbrev S768x4096 : Shape := ⟨2, ![768, 4096]⟩
abbrev S256x2048 : Shape := ⟨2, ![256, 2048]⟩
abbrev S8x768 : Shape := ⟨2, ![8, 768]⟩
abbrev S256 : Shape := ⟨1, ![256]⟩
abbrev S256x1 : Shape := ⟨2, ![256, 1]⟩
abbrev S256x768 : Shape := ⟨2, ![256, 768]⟩
abbrev S256x128 : Shape := ⟨2, ![256, 128]⟩
abbrev S256x512 : Shape := ⟨2, ![256, 512]⟩

abbrev nBuf : Space → Nat
  | .hbm => 37
  | .vmem => 22
  | .smem => 0
  | _ => 0

abbrev bufTy : (tb : Table) → Fin (tcTables nBuf tb) → BufTy
  | .hbm, ⟨0, _⟩ => ⟨S8192x4096, .f32⟩
  | .hbm, ⟨1, _⟩ => ⟨S1x4096, .f32⟩
  | .hbm, ⟨2, _⟩ => ⟨S1x12288, .f32⟩
  | .hbm, ⟨3, _⟩ => ⟨S1x4096x16096, .f32⟩
  | .hbm, ⟨4, _⟩ => ⟨S1x6880, .f32⟩
  | .hbm, ⟨5, _⟩ => ⟨S1x2048, .f32⟩
  | .hbm, ⟨6, _⟩ => ⟨S1x128x2048, .f32⟩
  | .hbm, ⟨7, _⟩ => ⟨S1x2048, .f32⟩
  | .hbm, ⟨8, _⟩ => ⟨S1x128x2048, .f32⟩
  | .hbm, ⟨9, _⟩ => ⟨S1x480x2048, .f32⟩
  | .hbm, ⟨10, _⟩ => ⟨S4096x16096, .f32⟩
  | .hbm, ⟨11, _⟩ => ⟨S16096x4096, .f32⟩
  | .hbm, ⟨12, _⟩ => ⟨S1x736, .f32⟩
  | .hbm, ⟨13, _⟩ => ⟨S736, .f32⟩
  | .hbm, ⟨14, _⟩ => ⟨S_, .f32⟩
  | .hbm, ⟨15, _⟩ => ⟨S32, .f32⟩
  | .hbm, ⟨16, _⟩ => ⟨S768, .f32⟩
  | .hbm, ⟨17, _⟩ => ⟨S1x768, .f32⟩
  | .hbm, ⟨18, _⟩ => ⟨S480x2048, .f32⟩
  | .hbm, ⟨19, _⟩ => ⟨S_, .f32⟩
  | .hbm, ⟨20, _⟩ => ⟨S32x2048, .f32⟩
  | .hbm, ⟨21, _⟩ => ⟨S512x2048, .f32⟩
  | .hbm, ⟨22, _⟩ => ⟨S512x2048, .bf16⟩
  | .hbm, ⟨23, _⟩ => ⟨S4096, .f32⟩
  | .hbm, ⟨24, _⟩ => ⟨S1x4096, .f32⟩
  | .hbm, ⟨25, _⟩ => ⟨S2048, .f32⟩
  | .hbm, ⟨26, _⟩ => ⟨S1x2048, .f32⟩
  | .hbm, ⟨27, _⟩ => ⟨S2048, .f32⟩
  | .hbm, ⟨28, _⟩ => ⟨S1x2048, .f32⟩
  | .hbm, ⟨29, _⟩ => ⟨S128x2048, .f32⟩
  | .hbm, ⟨30, _⟩ => ⟨S128x2048, .bf16⟩
  | .hbm, ⟨31, _⟩ => ⟨S128x2048, .f32⟩
  | .hbm, ⟨32, _⟩ => ⟨S128x2048, .bf16⟩
  | .hbm, ⟨33, _⟩ => ⟨S8192x4096, .bf16⟩
  | .hbm, ⟨34, _⟩ => ⟨S8192x2048, .f32⟩
  | .hbm, ⟨35, _⟩ => ⟨S8192x2048, .f32⟩
  | .hbm, ⟨36, _⟩ => ⟨S8192x2048, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x4096, .f32⟩
  | .local _ .vmem, ⟨4, _⟩ => ⟨S1x4096, .f32⟩
  | .local _ .vmem, ⟨5, _⟩ => ⟨S768x4096, .f32⟩
  | .local _ .vmem, ⟨6, _⟩ => ⟨S1x768, .f32⟩
  | .local _ .vmem, ⟨7, _⟩ => ⟨S1x2048, .f32⟩
  | .local _ .vmem, ⟨8, _⟩ => ⟨S1x2048, .f32⟩
  | .local _ .vmem, ⟨9, _⟩ => ⟨S128x2048, .bf16⟩
  | .local _ .vmem, ⟨10, _⟩ => ⟨S128x2048, .bf16⟩
  | .local _ .vmem, ⟨11, _⟩ => ⟨S512x2048, .bf16⟩
  | .local _ .vmem, ⟨12, _⟩ => ⟨S256x4096, .bf16⟩
  | .local _ .vmem, ⟨13, _⟩ => ⟨S256x4096, .bf16⟩
  | .local _ .vmem, ⟨14, _⟩ => ⟨S256x2048, .f32⟩
  | .local _ .vmem, ⟨15, _⟩ => ⟨S256x2048, .f32⟩
  | .local _ .vmem, ⟨16, _⟩ => ⟨S256x2048, .f32⟩
  | .local _ .vmem, ⟨17, _⟩ => ⟨S256x2048, .f32⟩
  | .local _ .vmem, ⟨18, _⟩ => ⟨S256x2048, .f32⟩
  | .local _ .vmem, ⟨19, _⟩ => ⟨S256x2048, .f32⟩
  | .local _ .vmem, ⟨20, _⟩ => ⟨S768x4096, .bf16⟩
  | .local _ .vmem, ⟨21, _⟩ => ⟨S8x768, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21_0 : Ref sig .tc := ⟨.hbm, 33, rfl⟩
abbrev main_v21_1 : Ref sig .tc := ⟨.hbm, 34, rfl⟩
abbrev main_v21_2 : Ref sig .tc := ⟨.hbm, 35, rfl⟩
abbrev main_v21_3 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_4 (i : grid0.Coords) : Fin 2 → Nat :=
  let arg0 : BitVec 32 := BitVec.ofNat 32 (i 0).val
  let c6144_i32 : BitVec 32 := 6144#32
  let c0_i32 : BitVec 32 := 0#32
  let c0_i32_0 : BitVec 32 := 0#32
  ![c6144_i32.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x4096 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference12Ideal.lean ====
abbrev S8192x4096 : Shape := ⟨2, ![8192, 4096]⟩
abbrev S1x4096 : Shape := ⟨2, ![1, 4096]⟩
abbrev S1x12288 : Shape := ⟨2, ![1, 12288]⟩
abbrev S1x4096x16096 : Shape := ⟨3, ![1, 4096, 16096]⟩
abbrev S1x6880 : Shape := ⟨2, ![1, 6880]⟩
abbrev S1x2048 : Shape := ⟨2, ![1, 2048]⟩
abbrev S1x128x2048 : Shape := ⟨3, ![1, 128, 2048]⟩
abbrev S1x480x2048 : Shape := ⟨3, ![1, 480, 2048]⟩
abbrev S4096 : Shape := ⟨1, ![4096]⟩
abbrev S_ : Shape := ⟨0, ![]⟩
abbrev S8192 : Shape := ⟨1, ![8192]⟩
abbrev S8192x1 : Shape := ⟨2, ![8192, 1]⟩
abbrev S4096x16096 : Shape := ⟨2, ![4096, 16096]⟩
abbrev S8192x16096 : Shape := ⟨2, ![8192, 16096]⟩
abbrev S8192x6880 : Shape := ⟨2, ![8192, 6880]⟩
abbrev S6880 : Shape := ⟨1, ![6880]⟩
abbrev S8193x6880 : Shape := ⟨2, ![8193, 6880]⟩
abbrev S8192x128 : Shape := ⟨2, ![8192, 128]⟩
abbrev S8192x480 : Shape := ⟨2, ![8192, 480]⟩
abbrev S2048 : Shape := ⟨1, ![2048]⟩
abbrev S128x2048 : Shape := ⟨2, ![128, 2048]⟩
abbrev S8192x2048 : Shape := ⟨2, ![8192, 2048]⟩
abbrev S480x2048 : Shape := ⟨2, ![480, 2048]⟩

abbrev nBuf : Space → Nat
  | .hbm => 105
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1x4096, .f32⟩
  | .hbm, ⟨2, _⟩ => ⟨S1x12288, .f32⟩
  | .hbm, ⟨3, _⟩ => ⟨S1x4096x16096, .f32⟩
  | .hbm, ⟨4, _⟩ => ⟨S1x6880, .f32⟩
  | .hbm, ⟨5, _⟩ => ⟨S1x2048, .f32⟩
  | .hbm, ⟨6, _⟩ => ⟨S1x128x2048, .f32⟩
  | .hbm, ⟨7, _⟩ => ⟨S1x2048, .f32⟩
  | .hbm, ⟨8, _⟩ => ⟨S1x128x2048, .f32⟩
  | .hbm, ⟨9, _⟩ => ⟨S1x480x2048, .f32⟩
  | .hbm, ⟨10, _⟩ => ⟨S1x4096, .f32⟩
  | .hbm, ⟨11, _⟩ => ⟨S1x4096, .f32⟩
  | .hbm, ⟨12, _⟩ => ⟨S1x4096, .f32⟩
  | .hbm, ⟨13, _⟩ => ⟨S4096, .f32⟩
  | .hbm, ⟨14, _⟩ => ⟨S8192x4096, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S8192x4096, .f32⟩
  | .hbm, ⟨26, _⟩ => ⟨S8192x4096, .f32⟩
  | .hbm, ⟨27, _⟩ => ⟨S1x4096, .f32⟩
  | .hbm, ⟨28, _⟩ => ⟨S8192x4096, .f32⟩
  | .hbm, ⟨29, _⟩ => ⟨S8192x4096, .f32⟩
  | .hbm, ⟨30, _⟩ => ⟨S_, .f32⟩
  | .hbm, ⟨31, _⟩ => ⟨S1x4096, .f32⟩
  | .hbm, ⟨32, _⟩ => ⟨S1x4096, .f32⟩
  | .hbm, ⟨33, _⟩ => ⟨S8192x4096, .f32⟩
  | .hbm, ⟨34, _⟩ => ⟨S8192x4096, .f32⟩
  | .hbm, ⟨35, _⟩ => ⟨S8192x4096, .f32⟩
  | .hbm, ⟨36, _⟩ => ⟨S8192x4096, .f32⟩
  | .hbm, ⟨37, _⟩ => ⟨S4096x16096, .f32⟩
  | .hbm, ⟨38, _⟩ => ⟨S8192x16096, .f32⟩
  | .hbm, ⟨39, _⟩ => ⟨S8192x6880, .f32⟩
  | .hbm, ⟨40, _⟩ => ⟨S6880, .f32⟩
  | .hbm, ⟨41, _⟩ => ⟨S_, .i32⟩
  | .hbm, ⟨42, _⟩ => ⟨S_, .f32⟩
  | .hbm, ⟨43, _⟩ => ⟨S8193x6880, .f32⟩
  | .hbm, ⟨44, _⟩ => ⟨S8192x6880, .f32⟩
  | .hbm, ⟨45, _⟩ => ⟨S8192x6880, .f32⟩
  | .hbm, ⟨46, _⟩ => ⟨S1x6880, .f32⟩
  | .hbm, ⟨47, _⟩ => ⟨S8192x6880, .f32⟩
  | .hbm, ⟨48, _⟩ => ⟨S8192x6880, .f32⟩
  | .hbm, ⟨49, _⟩ => ⟨S8192x6880, .f32⟩
  | .hbm, ⟨50, _⟩ => ⟨S8192x128, .f32⟩
  | .hbm, ⟨51, _⟩ => ⟨S8192x128, .f32⟩
  | .hbm, ⟨52, _⟩ => ⟨S8192x480, .f32⟩
  | .hbm, ⟨53, _⟩ => ⟨S2048, .f32⟩
  | .hbm, ⟨54, _⟩ => ⟨S8192x128, .f32⟩
  | .hbm, ⟨55, _⟩ => ⟨S128x2048, .f32⟩
  | .hbm, ⟨56, _⟩ => ⟨S8192x2048, .f32⟩
  | .hbm, ⟨57, _⟩ => ⟨S1x2048, .f32⟩
  | .hbm, ⟨58, _⟩ => ⟨S8192x2048, .f32⟩
  | .hbm, ⟨59, _⟩ => ⟨S8192x2048, .f32⟩
  | .hbm, ⟨60, _⟩ => ⟨S8192x2048, .f32⟩
  | .hbm, ⟨61, _⟩ => ⟨S_, .f32⟩
  | .hbm, ⟨62, _⟩ => ⟨S8192x2048, .f32⟩
  | .hbm, ⟨63, _⟩ => ⟨S8192x2048, .f32⟩
  | .hbm, ⟨64, _⟩ => ⟨S8192x2048, .f32⟩
  | .hbm, ⟨65, _⟩ => ⟨S8192x2048, .f32⟩
  | .hbm, ⟨66, _⟩ => ⟨S8192x2048, .i1⟩
  | .hbm, ⟨67, _⟩ => ⟨S8192x2048, .f32⟩
  | .hbm, ⟨68, _⟩ => ⟨S8192x2048, .f32⟩
  | .hbm, ⟨69, _⟩ => ⟨S8192x2048, .f32⟩
  | .hbm, ⟨70, _⟩ => ⟨S8192x2048, .f32⟩
  | .hbm, ⟨71, _⟩ => ⟨S8192x2048, .f32⟩
  | .hbm, ⟨72, _⟩ => ⟨S8192x2048, .f32⟩
  | .hbm, ⟨73, _⟩ => ⟨S8192x2048, .f32⟩
  | .hbm, ⟨74, _⟩ => ⟨S8192x2048, .f32⟩
  | .hbm, ⟨75, _⟩ => ⟨S8192x2048, .f32⟩
  | .hbm, ⟨76, _⟩ => ⟨S8192x2048, .f32⟩
  | .hbm, ⟨77, _⟩ => ⟨S_, .f32⟩
  | .hbm, ⟨78, _⟩ => ⟨S8192x2048, .f32⟩
  | .hbm, ⟨79, _⟩ => ⟨S8192x2048, .f32⟩
  | .hbm, ⟨80, _⟩ => ⟨S2048, .f32⟩
  | .hbm, ⟨81, _⟩ => ⟨S128x2048, .f32⟩
  | .hbm, ⟨82, _⟩ => ⟨S8192x2048, .f32⟩
  | .hbm, ⟨83, _⟩ => ⟨S1x2048, .f32⟩
  | .hbm, ⟨84, _⟩ => ⟨S8192x2048, .f32⟩
  | .hbm, ⟨85, _⟩ => ⟨S8192x2048, .f32⟩
  | .hbm, ⟨86, _⟩ => ⟨S8192x2048, .f32⟩
  | .hbm, ⟨87, _⟩ => ⟨S8192x2048, .f32⟩
  | .hbm, ⟨88, _⟩ => ⟨S_, .f32⟩
  | .hbm, ⟨89, _⟩ => ⟨S8192x2048, .f32⟩
  | .hbm, ⟨90, _⟩ => ⟨S8192x2048, .f32⟩
  | .hbm, ⟨91, _⟩ => ⟨S_, .f32⟩
  | .hbm, ⟨92, _⟩ => ⟨S8192x2048, .f32⟩
  | .hbm, ⟨93, _⟩ => ⟨S8192x2048, .f32⟩
  | .hbm, ⟨94, _⟩ => ⟨S8192x480, .f32⟩
  | .hbm, ⟨95, _⟩ => ⟨S8192x480, .f32⟩
  | .hbm, ⟨96, _⟩ => ⟨S_, .f32⟩
  | .hbm, ⟨97, _⟩ => ⟨S8192x480, .f32⟩
  | .hbm, ⟨98, _⟩ => ⟨S8192x480, .f32⟩
  | .hbm, ⟨99, _⟩ => ⟨S_, .f32⟩
  | .hbm, ⟨100, _⟩ => ⟨S8192x480, .f32⟩
  | .hbm, ⟨101, _⟩ => ⟨S8192x480, .f32⟩
  | .hbm, ⟨102, _⟩ => ⟨S480x2048, .f32⟩
  | .hbm, ⟨103, _⟩ => ⟨S8192x2048, .f32⟩
  | .hbm, ⟨104, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c : Ref sig .tc := ⟨.hbm, 41, rfl⟩
abbrev main_call0_v0 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_call1_cst : Ref sig .tc := ⟨.hbm, 61, rfl⟩
abbrev main_call1_v0 : Ref sig .tc := ⟨.hbm, 62, rfl⟩
abbrev main_call1_v1 : Ref sig .tc := ⟨.hbm, 63, rfl⟩
abbrev main_call1_v2 : Ref sig .tc := ⟨.hbm, 64, rfl⟩
abbrev main_call1_v3 : Ref sig .tc := ⟨.hbm, 65, rfl⟩
abbrev main_call1_v4 : Ref sig .tc := ⟨.hbm, 66, rfl⟩
abbrev main_call1_v5 : Ref sig .tc := ⟨.hbm, 67, rfl⟩
abbrev main_call1_v6 : Ref sig .tc := ⟨.hbm, 68, rfl⟩
abbrev main_call1_v7 : Ref sig .tc := ⟨.hbm, 69, rfl⟩
abbrev main_call1_v8 : Ref sig .tc := ⟨.hbm, 70, rfl⟩
abbrev main_call1_v9 : Ref sig .tc := ⟨.hbm, 71, rfl⟩
abbrev main_call1_v10 : Ref sig .tc := ⟨.hbm, 72, rfl⟩
abbrev main_call1_v11 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_3 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_4 : Ref sig .tc := ⟨.hbm, 88, rfl⟩
abbrev main_v58 : Ref sig .tc := ⟨.hbm, 89, rfl⟩
abbrev main_v59 : Ref sig .tc := ⟨.hbm, 90, rfl⟩
abbrev main_cst_5 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_cst_6 : Ref sig .tc := ⟨.hbm, 96, rfl⟩
abbrev main_v64 : Ref sig .tc := ⟨.hbm, 97, rfl⟩
abbrev main_v65 : Ref sig .tc := ⟨.hbm, 98, rfl⟩
abbrev main_cst_7 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩

abbrev nD : Nat := 1
abbrev τ : Topo := Topo.v7x

variable {F : FTy → Type} [FloatOps F]
-- ==== Kernel13.lean ====
abbrev S8192x1024 : Shape := ⟨2, ![8192, 1024]⟩
abbrev S1x64x64 : Shape := ⟨3, ![1, 64, 64]⟩
abbrev S1x64 : Shape := ⟨2, ![1, 64]⟩
abbrev S1x64x64x16 : Shape := ⟨4, ![1, 64, 64, 16]⟩
abbrev S1x64x16x64 : Shape := ⟨4, ![1, 64, 16, 64]⟩
abbrev S1x1024 : Shape := ⟨2, ![1, 1024]⟩
abbrev S1x1024x2048 : Shape := ⟨3, ![1, 1024, 2048]⟩
abbrev S1x2048 : Shape := ⟨2, ![1, 2048]⟩
abbrev S64x64 : Shape := ⟨2, ![64, 64]⟩
abbrev S1x4096 : Shape := ⟨2, ![1, 4096]⟩
abbrev S64 : Shape := ⟨1, ![64]⟩
abbrev S4096 : Shape := ⟨1, ![4096]⟩
abbrev S128x4096 : Shape := ⟨2, ![128, 4096]⟩
abbrev S64x64x16 : Shape := ⟨3, ![64, 64, 16]⟩
abbrev S64x16x64 : Shape := ⟨3, ![64, 16, 64]⟩
abbrev S4x256x64 : Shape := ⟨3, ![4, 256, 64]⟩
abbrev S4x1024x16 : Shape := ⟨3, ![4, 1024, 16]⟩
abbrev S1024 : Shape := ⟨1, ![1024]⟩
abbrev S1024x2048 : Shape := ⟨2, ![1024, 2048]⟩
abbrev S2048 : Shape := ⟨1, ![2048]⟩
abbrev S512x1024 : Shape := ⟨2, ![512, 1024]⟩
abbrev S4x256x2048 : Shape := ⟨3, ![4, 256, 2048]⟩
abbrev S8x4096 : Shape := ⟨2, ![8, 4096]⟩
abbrev S4x1024x256 : Shape := ⟨3, ![4, 1024, 256]⟩
abbrev S64x1024 : Shape := ⟨2, ![64, 1024]⟩
abbrev S256x1024 : Shape := ⟨2, ![256, 1024]⟩
abbrev S16x256 : Shape := ⟨2, ![16, 256]⟩
abbrev S1024x256 : Shape := ⟨2, ![1024, 256]⟩
abbrev S1x256x64 : Shape := ⟨3, ![1, 256, 64]⟩
abbrev S256x64 : Shape := ⟨2, ![256, 64]⟩
abbrev S1x256x1024 : Shape := ⟨3, ![1, 256, 1024]⟩
abbrev S1x1024x16 : Shape := ⟨3, ![1, 1024, 16]⟩
abbrev S1024x16 : Shape := ⟨2, ![1024, 16]⟩
abbrev S1x1024x256 : Shape := ⟨3, ![1, 1024, 256]⟩
abbrev S128x128 : Shape := ⟨2, ![128, 128]⟩
abbrev S512x256 : Shape := ⟨2, ![512, 256]⟩
abbrev S1x256x2048 : Shape := ⟨3, ![1, 256, 2048]⟩
abbrev S256x2048 : Shape := ⟨2, ![256, 2048]⟩
abbrev S512x2048 : Shape := ⟨2, ![512, 2048]⟩
abbrev S128x1024 : Shape := ⟨2, ![128, 1024]⟩
abbrev S128x2048 : Shape := ⟨2, ![128, 2048]⟩

abbrev nBuf : Space → Nat
  | .hbm => 46
  | .vmem => 34
  | .smem => 0
  | _ => 0

abbrev bufTy : (tb : Table) → Fin (tcTables nBuf tb) → BufTy
  | .hbm, ⟨0, _⟩ => ⟨S8192x1024, .f32⟩
  | .hbm, ⟨1, _⟩ => ⟨S1x64x64, .f32⟩
  | .hbm, ⟨2, _⟩ => ⟨S1x64x64, .f32⟩
  | .hbm, ⟨3, _⟩ => ⟨S1x64, .f32⟩
  | .hbm, ⟨4, _⟩ => ⟨S1x64x64x16, .f32⟩
  | .hbm, ⟨5, _⟩ => ⟨S1x64x64x16, .f32⟩
  | .hbm, ⟨6, _⟩ => ⟨S1x64x16x64, .f32⟩
  | .hbm, ⟨7, _⟩ => ⟨S1x64x16x64, .f32⟩
  | .hbm, ⟨8, _⟩ => ⟨S1x1024, .f32⟩
  | .hbm, ⟨9, _⟩ => ⟨S1x1024x2048, .f32⟩
  | .hbm, ⟨10, _⟩ => ⟨S1x2048, .f32⟩
  | .hbm, ⟨11, _⟩ => ⟨S64x64, .f32⟩
  | .hbm, ⟨12, _⟩ => ⟨S1x4096, .f32⟩
  | .hbm, ⟨13, _⟩ => ⟨S64x64, .f32⟩
  | .hbm, ⟨14, _⟩ => ⟨S1x4096, .f32⟩
  | .hbm, ⟨15, _⟩ => ⟨S64, .f32⟩
  | .hbm, ⟨16, _⟩ => ⟨S64x64, .f32⟩
  | .hbm, ⟨17, _⟩ => ⟨S4096, .f32⟩
  | .hbm, ⟨18, _⟩ => ⟨S1x4096, .f32⟩
  | .hbm, ⟨19, _⟩ => ⟨S128x4096, .f32⟩
  | .hbm, ⟨20, _⟩ => ⟨S128x4096, .f32⟩
  | .hbm, ⟨21, _⟩ => ⟨S128x4096, .f32⟩
  | .hbm, ⟨22, _⟩ => ⟨S128x4096, .f32⟩
  | .hbm, ⟨23, _⟩ => ⟨S1x4096, .f32⟩
  | .hbm, ⟨24, _⟩ => ⟨S1x4096, .f32⟩
  | .hbm, ⟨25, _⟩ => ⟨S1x4096, .f32⟩
  | .hbm, ⟨26, _⟩ => ⟨S1x4096, .f32⟩
  | .hbm, ⟨27, _⟩ => ⟨S64x64x16, .f32⟩
  | .hbm, ⟨28, _⟩ => ⟨S64x16x64, .f32⟩
  | .hbm, ⟨29, _⟩ => ⟨S4x256x64, .f32⟩
  | .hbm, ⟨30, _⟩ => ⟨S64x64x16, .f32⟩
  | .hbm, ⟨31, _⟩ => ⟨S64x16x64, .f32⟩
  | .hbm, ⟨32, _⟩ => ⟨S4x256x64, .f32⟩
  | .hbm, ⟨33, _⟩ => ⟨S64x16x64, .f32⟩
  | .hbm, ⟨34, _⟩ => ⟨S64x64x16, .f32⟩
  | .hbm, ⟨35, _⟩ => ⟨S4x1024x16, .f32⟩
  | .hbm, ⟨36, _⟩ => ⟨S64x16x64, .f32⟩
  | .hbm, ⟨37, _⟩ => ⟨S64x64x16, .f32⟩
  | .hbm, ⟨38, _⟩ => ⟨S4x1024x16, .f32⟩
  | .hbm, ⟨39, _⟩ => ⟨S1024, .f32⟩
  | .hbm, ⟨40, _⟩ => ⟨S1x1024, .f32⟩
  | .hbm, ⟨41, _⟩ => ⟨S1024x2048, .f32⟩
  | .hbm, ⟨42, _⟩ => ⟨S1024x2048, .bf16⟩
  | .hbm, ⟨43, _⟩ => ⟨S2048, .f32⟩
  | .hbm, ⟨44, _⟩ => ⟨S1x2048, .f32⟩
  | .hbm, ⟨45, _⟩ => ⟨S8192x1024, .bf16⟩
  | .local _ .vmem, ⟨0, _⟩ => ⟨S1x4096, .f32⟩
  | .local _ .vmem, ⟨1, _⟩ => ⟨S1x4096, .f32⟩
  | .local _ .vmem, ⟨2, _⟩ => ⟨S1x4096, .f32⟩
  | .local _ .vmem, ⟨3, _⟩ => ⟨S128x4096, .f32⟩
  | .local _ .vmem, ⟨4, _⟩ => ⟨S128x4096, .f32⟩
  | .local _ .vmem, ⟨5, _⟩ => ⟨S128x4096, .f32⟩
  | .local _ .vmem, ⟨6, _⟩ => ⟨S128x4096, .f32⟩
  | .local _ .vmem, ⟨7, _⟩ => ⟨S1x4096, .f32⟩
  | .local _ .vmem, ⟨8, _⟩ => ⟨S1x4096, .f32⟩
  | .local _ .vmem, ⟨9, _⟩ => ⟨S1x4096, .f32⟩
  | .local _ .vmem, ⟨10, _⟩ => ⟨S1x4096, .f32⟩
  | .local _ .vmem, ⟨11, _⟩ => ⟨S512x1024, .f32⟩
  | .local _ .vmem, ⟨12, _⟩ => ⟨S512x1024, .f32⟩
  | .local _ .vmem, ⟨13, _⟩ => ⟨S128x4096, .f32⟩
  | .local _ .vmem, ⟨14, _⟩ => ⟨S128x4096, .f32⟩
  | .local _ .vmem, ⟨15, _⟩ => ⟨S128x4096, .f32⟩
  | .local _ .vmem, ⟨16, _⟩ => ⟨S128x4096, .f32⟩
  | .local _ .vmem, ⟨17, _⟩ => ⟨S1x4096, .f32⟩
  | .local _ .vmem, ⟨18, _⟩ => ⟨S1x4096, .f32⟩
  | .local _ .vmem, ⟨19, _⟩ => ⟨S1x4096, .f32⟩
  | .local _ .vmem, ⟨20, _⟩ => ⟨S1x4096, .f32⟩
  | .local _ .vmem, ⟨21, _⟩ => ⟨S4x256x64, .f32⟩
  | .local _ .vmem, ⟨22, _⟩ => ⟨S4x256x64, .f32⟩
  | .local _ .vmem, ⟨23, _⟩ => ⟨S4x1024x16, .f32⟩
  | .local _ .vmem, ⟨24, _⟩ => ⟨S4x1024x16, .f32⟩
  | .local _ .vmem, ⟨25, _⟩ => ⟨S1x1024, .f32⟩
  | .local _ .vmem, ⟨26, _⟩ => ⟨S1024x2048, .bf16⟩
  | .local _ .vmem, ⟨27, _⟩ => ⟨S1x2048, .f32⟩
  | .local _ .vmem, ⟨28, _⟩ => ⟨S512x1024, .bf16⟩
  | .local _ .vmem, ⟨29, _⟩ => ⟨S512x1024, .bf16⟩
  | .local _ .vmem, ⟨30, _⟩ => ⟨S4x256x2048, .bf16⟩
  | .local _ .vmem, ⟨31, _⟩ => ⟨S8x4096, .f32⟩
  | .local _ .vmem, ⟨32, _⟩ => ⟨S4x1024x256, .bf16⟩
  | .local _ .vmem, ⟨33, _⟩ => ⟨S4x1024x256, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8_0 : Ref sig .tc := ⟨.hbm, 19, rfl⟩
abbrev main_v8_1 : Ref sig .tc := ⟨.hbm, 20, rfl⟩
abbrev main_v8_2 : Ref sig .tc := ⟨.hbm, 21, rfl⟩
abbrev main_v8_3 : Ref sig .tc := ⟨.hbm, 22, rfl⟩
abbrev main_v8_4 : Ref sig .tc := ⟨.hbm, 23, rfl⟩
abbrev main_v8_5 : Ref sig .tc := ⟨.hbm, 24, rfl⟩
abbrev main_v8_6 : Ref sig .tc := ⟨.hbm, 25, rfl⟩
abbrev main_v8_7 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg9_0 : Ref sig .tc := ⟨.vmem, 21, rfl⟩
abbrev cc1_stg10_0 : Ref sig .tc := ⟨.vmem, 22, rfl⟩
abbrev cc1_stg11_0 : Ref sig .tc := ⟨.vmem, 23, rfl⟩
abbrev cc1_stg12_0 : Ref sig .tc := ⟨.vmem, 24, rfl⟩
abbrev cc1_stg13_0 : Ref sig .tc := ⟨.vmem, 25, rfl⟩
abbrev cc1_stg14_0 : Ref sig .tc := ⟨.vmem, 26, rfl⟩
abbrev cc1_stg15_0 : Ref sig .tc := ⟨.vmem, 27, rfl⟩
abbrev cc1_stg16_0 : Ref sig .tc := ⟨.vmem, 28, rfl⟩
abbrev cc1_stg16_1 : Ref sig .tc := ⟨.vmem, 29, rfl⟩
abbrev cc1_scratch0 : Ref sig .tc := ⟨.vmem, 30, rfl⟩
abbrev cc1_scratch1 : Ref sig .tc := ⟨.vmem, 31, rfl⟩
abbrev cc1_scratch2 : Ref sig .tc := ⟨.vmem, 32, rfl⟩
abbrev cc1_scratch3 : Ref sig .tc := ⟨.vmem, 33, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem9_0 : DmaSem sig := 21
abbrev cc1_sem10_0 : DmaSem sig := 22
abbrev cc1_sem11_0 : DmaSem sig := 23
abbrev cc1_sem12_0 : DmaSem sig := 24
abbrev cc1_sem13_0 : DmaSem sig := 25
abbrev cc1_sem14_0 : DmaSem sig := 26
abbrev cc1_sem15_0 : DmaSem sig := 27
abbrev cc1_sem16_0 : DmaSem sig := 28
abbrev cc1_sem16_1 : DmaSem sig := 29

abbrev nD : Nat := 1
abbrev τ : Topo := Topo.v7x

variable {F : FTy → Type} [FloatOps F]

abbrev grid0 : Pipeline.Grid := .none

abbrev stage0_0 : Fin 1 → Memref sig .tc .vmem S1x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x4096 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_12 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x4096 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x4096 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x4096 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x4096 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x4096 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x4096 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S4x256x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S4x256x64 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S4x1024x16 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S4x1024x16 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1x1024 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S1024x2048 .bf16 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S1x2048 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 2 → Memref sig .tc .vmem S512x1024 .bf16 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true]
-- ==== Kernel14.lean ====
abbrev S1x64x64 : Shape := ⟨3, ![1, 64, 64]⟩
abbrev S1x64 : Shape := ⟨2, ![1, 64]⟩
abbrev S64x64 : Shape := ⟨2, ![64, 64]⟩
abbrev S1x4096 : Shape := ⟨2, ![1, 4096]⟩
abbrev S64 : Shape := ⟨1, ![64]⟩
abbrev S4096 : Shape := ⟨1, ![4096]⟩
abbrev S128x4096 : Shape := ⟨2, ![128, 4096]⟩

abbrev nBuf : Space → Nat
  | .hbm => 19
  | .vmem => 11
  | .smem => 0
  | _ => 0

abbrev bufTy : (tb : Table) → Fin (tcTables nBuf tb) → BufTy
  | .hbm, ⟨0, _⟩ => ⟨S1x64x64, .f32⟩
  | .hbm, ⟨1, _⟩ => ⟨S1x64x64, .f32⟩
  | .hbm, ⟨2, _⟩ => ⟨S1x64, .f32⟩
  | .hbm, ⟨3, _⟩ => ⟨S64x64, .f32⟩
  | .hbm, ⟨4, _⟩ => ⟨S1x4096, .f32⟩
  | .hbm, ⟨5, _⟩ => ⟨S64x64, .f32⟩
  | .hbm, ⟨6, _⟩ => ⟨S1x4096, .f32⟩
  | .hbm, ⟨7, _⟩ => ⟨S64, .f32⟩
  | .hbm, ⟨8, _⟩ => ⟨S64x64, .f32⟩
  | .hbm, ⟨9, _⟩ => ⟨S4096, .f32⟩
  | .hbm, ⟨10, _⟩ => ⟨S1x4096, .f32⟩
  | .hbm, ⟨11, _⟩ => ⟨S128x4096, .f32⟩
  | .hbm, ⟨12, _⟩ => ⟨S128x4096, .f32⟩
  | .hbm, ⟨13, _⟩ => ⟨S128x4096, .f32⟩
  | .hbm, ⟨14, _⟩ => ⟨S128x4096, .f32⟩
  | .hbm, ⟨15, _⟩ => ⟨S1x4096, .f32⟩
  | .hbm, ⟨16, _⟩ => ⟨S1x4096, .f32⟩
  | .hbm, ⟨17, _⟩ => ⟨S1x4096, .f32⟩
  | .hbm, ⟨18, _⟩ => ⟨S1x4096, .f32⟩
  | .local _ .vmem, ⟨0, _⟩ => ⟨S1x4096, .f32⟩
  | .local _ .vmem, ⟨1, _⟩ => ⟨S1x4096, .f32⟩
  | .local _ .vmem, ⟨2, _⟩ => ⟨S1x4096, .f32⟩
  | .local _ .vmem, ⟨3, _⟩ => ⟨S128x4096, .f32⟩
  | .local _ .vmem, ⟨4, _⟩ => ⟨S128x4096, .f32⟩
  | .local _ .vmem, ⟨5, _⟩ => ⟨S128x4096, .f32⟩
  | .local _ .vmem, ⟨6, _⟩ => ⟨S128x4096, .f32⟩
  | .local _ .vmem, ⟨7, _⟩ => ⟨S1x4096, .f32⟩
  | .local _ .vmem, ⟨8, _⟩ => ⟨S1x4096, .f32⟩
  | .local _ .vmem, ⟨9, _⟩ => ⟨S1x4096, .f32⟩
  | .local _ .vmem, ⟨10, _⟩ => ⟨S1x4096, .f32⟩
  | _, _ => ⟨S1x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8_0 : Ref sig .tc := ⟨.hbm, 11, rfl⟩
abbrev main_v8_1 : Ref sig .tc := ⟨.hbm, 12, rfl⟩
abbrev main_v8_2 : Ref sig .tc := ⟨.hbm, 13, rfl⟩
abbrev main_v8_3 : Ref sig .tc := ⟨.hbm, 14, rfl⟩
abbrev main_v8_4 : Ref sig .tc := ⟨.hbm, 15, rfl⟩
abbrev main_v8_5 : Ref sig .tc := ⟨.hbm, 16, rfl⟩
abbrev main_v8_6 : Ref sig .tc := ⟨.hbm, 17, rfl⟩
abbrev main_v8_7 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S1x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x4096 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Reference14Ideal.lean ====
abbrev S1x64x64 : Shape := ⟨3, ![1, 64, 64]⟩
abbrev S1x64 : Shape := ⟨2, ![1, 64]⟩
abbrev S64x64 : Shape := ⟨2, ![64, 64]⟩
abbrev S64 : Shape := ⟨1, ![64]⟩
abbrev S64x1 : Shape := ⟨2, ![64, 1]⟩
abbrev S_ : Shape := ⟨0, ![]⟩
abbrev S128 : Shape := ⟨1, ![128]⟩
abbrev S128x1x1 : Shape := ⟨3, ![128, 1, 1]⟩
abbrev S128x64x64 : Shape := ⟨3, ![128, 64, 64]⟩
abbrev S128x4096 : Shape := ⟨2, ![128, 4096]⟩
abbrev S1x4096 : Shape := ⟨2, ![1, 4096]⟩

abbrev nBuf : Space → Nat
  | .hbm => 122
  | .vmem => 0
  | .smem => 0
  | _ => 0

abbrev bufTy : (tb : Table) → Fin (tcTables nBuf tb) → BufTy
  | .hbm, ⟨0, _⟩ => ⟨S1x64x64, .f32⟩
  | .hbm, ⟨1, _⟩ => ⟨S1x64x64, .f32⟩
  | .hbm, ⟨2, _⟩ => ⟨S1x64, .f32⟩
  | .hbm, ⟨3, _⟩ => ⟨S64x64, .f32⟩
  | .hbm, ⟨4, _⟩ => ⟨S64x64, .f32⟩
  | .hbm, ⟨5, _⟩ => ⟨S64, .f32⟩
  | .hbm, ⟨6, _⟩ => ⟨S64, .f32⟩
  | .hbm, ⟨7, _⟩ => ⟨S64x1, .f32⟩
  | .hbm, ⟨8, _⟩ => ⟨S64x64, .f32⟩
  | .hbm, ⟨9, _⟩ => ⟨S64x64, .f32⟩
  | .hbm, ⟨10, _⟩ => ⟨S64x64, .f32⟩
  | .hbm, ⟨11, _⟩ => ⟨S64x64, .f32⟩
  | .hbm, ⟨12, _⟩ => ⟨S64x64, .f32⟩
  | .hbm, ⟨13, _⟩ => ⟨S64x64, .f32⟩
  | .hbm, ⟨14, _⟩ => ⟨S64x64, .f32⟩
  | .hbm, ⟨15, _⟩ => ⟨S64x64, .f32⟩
  | .hbm, ⟨16, _⟩ => ⟨S64x64, .f32⟩
  | .hbm, ⟨17, _⟩ => ⟨S64x64, .f32⟩
  | .hbm, ⟨18, _⟩ => ⟨S64x64, .f32⟩
  | .hbm, ⟨19, _⟩ => ⟨S64x64, .f32⟩
  | .hbm, ⟨20, _⟩ => ⟨S64x64, .f32⟩
  | .hbm, ⟨21, _⟩ => ⟨S64x64, .f32⟩
  | .hbm, ⟨22, _⟩ => ⟨S_, .f32⟩
  | .hbm, ⟨23, _⟩ => ⟨S64x64, .f32⟩
  | .hbm, ⟨24, _⟩ => ⟨S64x64, .f32⟩
  | .hbm, ⟨25, _⟩ => ⟨S64x64, .f32⟩
  | .hbm, ⟨26, _⟩ => ⟨S64x64, .f32⟩
  | .hbm, ⟨27, _⟩ => ⟨S64x64, .f32⟩
  | .hbm, ⟨28, _⟩ => ⟨S64x64, .f32⟩
  | .hbm, ⟨29, _⟩ => ⟨S64x64, .f32⟩
  | .hbm, ⟨30, _⟩ => ⟨S_, .f32⟩
  | .hbm, ⟨31, _⟩ => ⟨S64x64, .f32⟩
  | .hbm, ⟨32, _⟩ => ⟨S64x64, .f32⟩
  | .hbm, ⟨33, _⟩ => ⟨S64x64, .f32⟩
  | .hbm, ⟨34, _⟩ => ⟨S64x64, .f32⟩
  | .hbm, ⟨35, _⟩ => ⟨S64x64, .f32⟩
  | .hbm, ⟨36, _⟩ => ⟨S128, .i32⟩
  | .hbm, ⟨37, _⟩ => ⟨S_, .i32⟩
  | .hbm, ⟨38, _⟩ => ⟨S128, .i32⟩
  | .hbm, ⟨39, _⟩ => ⟨S128, .i32⟩
  | .hbm, ⟨40, _⟩ => ⟨S128, .f32⟩
  | .hbm, ⟨41, _⟩ => ⟨S128x1x1, .f32⟩
  | .hbm, ⟨42, _⟩ => ⟨S64x64, .f32⟩
  | .hbm, ⟨43, _⟩ => ⟨S64x64, .f32⟩
  | .hbm, ⟨44, _⟩ => ⟨S1x64x64, .f32⟩
  | .hbm, ⟨45, _⟩ => ⟨S128x64x64, .f32⟩
  | .hbm, ⟨46, _⟩ => ⟨S128x64x64, .f32⟩
  | .hbm, ⟨47, _⟩ => ⟨S128x64x64, .f32⟩
  | .hbm, ⟨48, _⟩ => ⟨S128x64x64, .f32⟩
  | .hbm, ⟨49, _⟩ => ⟨S64x64, .f32⟩
  | .hbm, ⟨50, _⟩ => ⟨S64x64, .f32⟩
  | .hbm, ⟨51, _⟩ => ⟨S1x64x64, .f32⟩
  | .hbm, ⟨52, _⟩ => ⟨S128x64x64, .f32⟩
  | .hbm, ⟨53, _⟩ => ⟨S128x64x64, .f32⟩
  | .hbm, ⟨54, _⟩ => ⟨S128x64x64, .f32⟩
  | .hbm, ⟨55, _⟩ => ⟨S128x64x64, .f32⟩
  | .hbm, ⟨56, _⟩ => ⟨S128x64x64, .f32⟩
  | .hbm, ⟨57, _⟩ => ⟨S64x64, .f32⟩
  | .hbm, ⟨58, _⟩ => ⟨S64x64, .f32⟩
  | .hbm, ⟨59, _⟩ => ⟨S1x64x64, .f32⟩
  | .hbm, ⟨60, _⟩ => ⟨S128x64x64, .f32⟩
  | .hbm, ⟨61, _⟩ => ⟨S128x64x64, .f32⟩
  | .hbm, ⟨62, _⟩ => ⟨S128x64x64, .f32⟩
  | .hbm, ⟨63, _⟩ => ⟨S128x64x64, .f32⟩
  | .hbm, ⟨64, _⟩ => ⟨S128x64x64, .f32⟩
  | .hbm, ⟨65, _⟩ => ⟨S_, .f32⟩
  | .hbm, ⟨66, _⟩ => ⟨S128x64x64, .f32⟩
  | .hbm, ⟨67, _⟩ => ⟨S128x64x64, .f32⟩
  | .hbm, ⟨68, _⟩ => ⟨S64x64, .f32⟩
  | .hbm, ⟨69, _⟩ => ⟨S64x64, .f32⟩
  | .hbm, ⟨70, _⟩ => ⟨S1x64x64, .f32⟩
  | .hbm, ⟨71, _⟩ => ⟨S128x64x64, .f32⟩
  | .hbm, ⟨72, _⟩ => ⟨S128x64x64, .f32⟩
  | .hbm, ⟨73, _⟩ => ⟨S128x64x64, .f32⟩
  | .hbm, ⟨74, _⟩ => ⟨S128x64x64, .f32⟩
  | .hbm, ⟨75, _⟩ => ⟨S128x64x64, .f32⟩
  | .hbm, ⟨76, _⟩ => ⟨S_, .f32⟩
  | .hbm, ⟨77, _⟩ => ⟨S128x64x64, .f32⟩
  | .hbm, ⟨78, _⟩ => ⟨S128x64x64, .f32⟩
  | .hbm, ⟨79, _⟩ => ⟨S64x64, .f32⟩
  | .hbm, ⟨80, _⟩ => ⟨S64x64, .f32⟩
  | .hbm, ⟨81, _⟩ => ⟨S1x64x64, .f32⟩
  | .hbm, ⟨82, _⟩ => ⟨S128x64x64, .f32⟩
  | .hbm, ⟨83, _⟩ => ⟨S128x64x64, .f32⟩
  | .hbm, ⟨84, _⟩ => ⟨S128x64x64, .f32⟩
  | .hbm, ⟨85, _⟩ => ⟨S128x64x64, .f32⟩
  | .hbm, ⟨86, _⟩ => ⟨S128x64x64, .f32⟩
  | .hbm, ⟨87, _⟩ => ⟨S128x64x64, .f32⟩
  | .hbm, ⟨88, _⟩ => ⟨S64x64, .f32⟩
  | .hbm, ⟨89, _⟩ => ⟨S64x64, .f32⟩
  | .hbm, ⟨90, _⟩ => ⟨S_, .f32⟩
  | .hbm, ⟨91, _⟩ => ⟨S64x64, .f32⟩
  | .hbm, ⟨92, _⟩ => ⟨S64x64, .f32⟩
  | .hbm, ⟨93, _⟩ => ⟨S64x64, .f32⟩
  | .hbm, ⟨94, _⟩ => ⟨S64x64, .f32⟩
  | .hbm, ⟨95, _⟩ => ⟨S64x64, .f32⟩
  | .hbm, ⟨96, _⟩ => ⟨S_, .f32⟩
  | .hbm, ⟨97, _⟩ => ⟨S64x64, .f32⟩
  | .hbm, ⟨98, _⟩ => ⟨S64x64, .f32⟩
  | .hbm, ⟨99, _⟩ => ⟨S64x64, .f32⟩
  | .hbm, ⟨100, _⟩ => ⟨S64x64, .f32⟩
  | .hbm, ⟨101, _⟩ => ⟨S64x64, .f32⟩
  | .hbm, ⟨102, _⟩ => ⟨S64x64, .f32⟩
  | .hbm, ⟨103, _⟩ => ⟨S_, .f32⟩
  | .hbm, ⟨104, _⟩ => ⟨S64x64, .f32⟩
  | .hbm, ⟨105, _⟩ => ⟨S64x64, .f32⟩
  | .hbm, ⟨106, _⟩ => ⟨S64x64, .f32⟩
  | .hbm, ⟨107, _⟩ => ⟨S64x64, .f32⟩
  | .hbm, ⟨108, _⟩ => ⟨S64x64, .f32⟩
  | .hbm, ⟨109, _⟩ => ⟨S_, .f32⟩
  | .hbm, ⟨110, _⟩ => ⟨S64x64, .f32⟩
  | .hbm, ⟨111, _⟩ => ⟨S64x64, .f32⟩
  | .hbm, ⟨112, _⟩ => ⟨S64x64, .f32⟩
  | .hbm, ⟨113, _⟩ => ⟨S64x64, .f32⟩
  | .hbm, ⟨114, _⟩ => ⟨S128x4096, .f32⟩
  | .hbm, ⟨115, _⟩ => ⟨S128x4096, .f32⟩
  | .hbm, ⟨116, _⟩ => ⟨S128x4096, .f32⟩
  | .hbm, ⟨117, _⟩ => ⟨S128x4096, .f32⟩
  | .hbm, ⟨118, _⟩ => ⟨S1x4096, .f32⟩
  | .hbm, ⟨119, _⟩ => ⟨S1x4096, .f32⟩
  | .hbm, ⟨120, _⟩ => ⟨S1x4096, .f32⟩
  | .hbm, ⟨121, _⟩ => ⟨S1x4096, .f32⟩
  | _, _ => ⟨S1x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_cst : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_cst_0 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_c : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_cst_1 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_cst_2 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_cst_3 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_cst_4 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_cst_5 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_cst_6 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩

abbrev nD : Nat := 1
abbrev τ : Topo := Topo.v7x

variable {F : FTy → Type} [FloatOps F]
-- ==== Proof.Layer.FfnUp.lean ====
/-
  The up projection of the feed-forward block: what the two result arrays hold after the run, read at an index, and the
  reference's two results at the same index.
-/
module

public import proofs.«01_k».proof.Proof.Gen.Kernel2Ideal.Value
public import proofs.«01_k».proof.Proof.Gen.Reference2Ideal.Read
public import Idealize.ShloMosaic.Lib.Pipeline.ValueKit
public import Idealize.ShloMosaic.Lib.Pointwise

@[expose] public section

set_option maxRecDepth 16384

noncomputable section

namespace Cert.Kernel2Ideal.FfnUp

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ)

/-- The block indices of the windows the first result depends on, over the grid's points. -/
theorem idx : ∀ t : Fin cfg0.N, win0_0.index t = ![(grid0.coords t 0).val, 0] ∧ win0_1.index t = ![0, (grid0.coords t 1).val]
    ∧ win0_2.index t = ![0, (grid0.coords t 1).val] ∧ win0_4.index t = ![(grid0.coords t 0).val, (grid0.coords t 1).val] :=
  (by decide +kernel : ∀ t : Fin grid0.N, _)

/-- The block indices of the down projection's weight and of its cast. -/
theorem idx5 : ∀ t : Fin cfg0.N, win0_3.index t = ![t.val, 0] ∧ win0_5.index t = ![t.val, 0] := (by decide +kernel : ∀ t : Fin grid0.N, _)

/-- The gated activations as one function of the arguments, in the reference's own stages. -/
abbrev act (c : Dev nD) : S8192x11008.Idx → EReal :=
  Cert.Reference2Ideal.Read.val_main_v7 (F := Ideal) (m ((c : Thread nD τ).loc main_arg0)) (m ((c : Thread nD τ).loc main_arg1)) (m ((c : Thread nD τ).loc main_arg2))

/-- The cast weight of the down projection, in the reference's own stage. -/
abbrev wdown (c : Dev nD) : S11008x4096.Idx → EReal :=
  Cert.Reference2Ideal.Read.val_main_v9 (F := Ideal) (m ((c : Thread nD τ).loc main_arg3))

open Cert.Reference2Ideal.Read in
theorem final4 (c : Dev nD) : (dats m 0 c).arrAt 4 cfg0.N = act m c := by
  refine (dats m 0 c).arrAt_eq_of_covers 4 _ (by decide +kernel) fun t hf y => ?_
  blk_simp
  rw [after0_4]
  frame_out
  idx_vars y
  pointwise [k0_pay1, act, val_main_v7, val_main_v6, val_main_v3, val_main_call0_v5, val_main_call0_v4, val_main_call0_v3, val_main_call0_v2, val_main_call0_v1, val_main_call0_v0, val_main_call0_cst, val_main_call0_cst_0, val_main_v2_apply, val_main_v5_apply, val_main_v0, val_main_v1_apply, val_main_v4_apply]
  simp only [sub_eq_add_neg, zero_add]
  have hb : (grid0.coords t 1).val < 43 := (grid0.coords t 1).isLt
  blk_point [iblk, V, idx t] <;> omega

open Cert.Reference2Ideal.Read in
theorem final5 (c : Dev nD) : (dats m 0 c).arrAt 5 cfg0.N = wdown m c := by
  refine (dats m 0 c).arrAt_eq_of_covers 5 _ (by decide +kernel) fun t hf y => ?_
  blk_simp
  rw [after0_5]
  frame_out
  idx_vars y
  pointwise [k0_pay2, wdown, val_main_v9, val_main_v8_apply]
  have hb : t.val < 172 := lt_of_lt_of_eq t.isLt N_0
  blk_point [iblk, V, idx5 t] <;> omega

end Cert.Kernel2Ideal.FfnUp

end
-- ==== Proof.Layer.FfnDown.lean ====
/-
  The down projection of the feed-forward block: the contraction is split in two, the first half held in the scratch and
  the second half added to it. The two halves' sum is the whole contraction.
-/
module

public import proofs.«01_k».proof.Proof.Gen.Kernel3Ideal.Value
public import proofs.«01_k».proof.Proof.Gen.Reference3Ideal.Read
public import Idealize.ShloMosaic.Lib.Pipeline.ValueKit
public import Idealize.ShloMosaic.Lib.Pointwise
public import Idealize.ShloMosaic.Lib.Pipeline.ReadBack

@[expose] public section

set_option maxRecDepth 16384

noncomputable section

namespace Cert.Kernel3Ideal.FfnDown

open Cert.Kernel3Ideal Cert.Kernel3Ideal.Gen Idealize.ShloMosaic Idealize.ShloMosaic.TcCoe Idealize.SL.Sem
open Idealize.ShloMosaic.Pipeline (Dat)

variable (m : (ℓ : Loc nD τ sig) → Buf (Elt Ideal) ℓ)

/-- The block indices of the windows, over the grid's points. -/
theorem idx : ∀ t : Fin cfg0.N, win0_0.index t = ![t.val / 8, t.val % 2] ∧ win0_1.index t = ![t.val % 2, t.val / 2 % 4]
    ∧ win0_2.index t = ![t.val / 8, t.val / 2 % 4] :=
  (by decide +kernel : ∀ t : Fin grid0.N, _)

/-- The down projection as one function of the arguments, in the reference's own stages. -/
abbrev out (c : Dev nD) : S8192x4096.Idx → EReal :=
  Cert.Reference3Ideal.Read.val_main_v3 (F := Ideal) (m ((c : Thread nD τ).loc main_arg0)) (m ((c : Thread nD τ).loc main_arg1))

/-- The whole contraction is the sum of its two halves. -/
theorem sum_halves (f : Fin 11008 → EReal) :
    ∑ k, f k = ∑ k : Fin 5504, f ⟨k.val, by omega⟩ + ∑ k : Fin 5504, f ⟨5504 + k.val, by omega⟩ :=
  Fin.sum_univ_add (a := 5504) (b := 5504) f

open Cert.Reference3Ideal.Read in
theorem final2 (c : Dev nD) : (dats m 0 c).arrAt 2 cfg0.N = out m c := by
  refine (dats m 0 c).arrAt_eq_of_covers 2 _ (by decide +kernel) fun t hf y => ?_
  have ht : t.val % 2 = 1 := (flush0_2 t).mp hf
  have h0 : ¬ t.val % 2 = 0 := by omega
  blk_simp
  rw [after0_2]
  have hN : t.val < 64 := lt_of_lt_of_eq t.isLt N_0
  obtain ⟨n, hn⟩ : ∃ n, t.val = n + 1 := ⟨t.val - 1, by omega⟩
  obtain ⟨t, htt⟩ := t
  subst hn
  rw [Value.outsAt0_succ, Value.stAt0_B m c ⟨_, htt⟩ _ h0 ht]
  dsimp only
  frame_out
  rw [outsAt0_A m c ⟨n, Nat.lt_of_succ_lt htt⟩ (by simp only at ht ⊢; omega) (by simp only at ht ⊢; omega)]
  dsimp only
  frame_out
  rw [read_unread_whole]
  idx_vars y
  pointwise [k0_pay4, k0_pay2, k0_pay1, out, val_main_v3, val_main_v2_apply, val_main_v1, val_main_v0]
  refine Eq.trans ?_ (sum_halves _).symm
  blk_point [iblk, V, idx ⟨n, Nat.lt_of_succ_lt htt⟩, idx ⟨n + 1, htt⟩]

end Cert.Kernel3Ideal.FfnDown

end
-- ==== Proof.Layer.Final.lean ====
/-
  The layer's last step: the normalised feed-forward output, gated and added to the residual stream, read at an index, and
  the reference's result at the same index.
-/
module

public import proofs.«01_k».proof.Proof.Gen.Kernel4Ideal.Value
public import proofs.«01_k».proof.Proof.Gen.Reference4Ideal.Read
public import Idealize.ShloMosaic.Lib.Pipeline.ValueKit
public import Idealize.ShloMosaic.Lib.Pointwise

@[expose] public section

set_option maxRecDepth 16384

noncomputable section

namespace Cert.Kernel4Ideal.Final

open Cert.Kernel4Ideal Cert.Kernel4Ideal.Gen Idealize.ShloMosaic Idealize.ShloMosaic.TcCoe Idealize.SL.Sem
open Idealize.ShloMosaic.Pipeline (Dat)

variable (m : (ℓ : Loc nD τ sig) → Buf (Elt Ideal) ℓ)

/-- The block indices of the windows, over the grid's points. -/
theorem idx : ∀ t : Fin cfg0.N, win0_0.index t = ![t.val, 0] ∧ win0_1.index t = ![t.val, 0]
    ∧ win0_2.index t = ![0, 0] ∧ win0_3.index t = ![0, 2] ∧ win0_4.index t = ![t.val, 0] :=
  (by decide +kernel : ∀ t : Fin grid0.N, _)

/-- The layer's output as one function of the arguments, in the reference's own stages. -/
abbrev out (c : Dev nD) : S8192x4096.Idx → EReal :=
  Cert.Reference4Ideal.Read.val_main_v20 (F := Ideal) (m ((c : Thread nD τ).loc main_arg0)) (m ((c : Thread nD τ).loc main_arg1)) (m ((c : Thread nD τ).loc main_arg2)) (m ((c : Thread nD τ).loc main_arg3))

open Cert.Reference4Ideal.Read in
theorem final4 (c : Dev nD) : (dats m 0 c).arrAt 4 cfg0.N = out m c := by
  refine (dats m 0 c).arrAt_eq_of_covers 4 _ (by decide +kernel) fun t hf y => ?_
  blk_simp
  rw [after0_4]
  frame_out
  idx_vars y
  pointwise [k0_pay1, out, val_main_v20, val_main_v19, val_main_v18_apply, val_main_v17, val_main_v16_apply, val_main_v15_apply, val_main_v14, val_main_v13_apply, val_main_v12, val_main_v11, val_main_v10_apply, val_main_v9, val_main_v8_apply, val_main_v7_apply, val_main_v6_apply, val_main_v5, val_main_v4_apply, val_main_v3, val_main_v2_apply, val_main_cst_apply, val_main_cst_0_apply, val_main_cst_1_apply]
  blk_point [iblk, V, idx t]

end Cert.Kernel4Ideal.Final

end
-- ==== Proof.Layer.FfnClaims.lean ====
/-
  The claims about the feed-forward block's three calls, each from the call's run and the arrays it is shown to leave.
-/
module

public import proofs.«01_k».proof.Defs
public import proofs.«01_k».proof.Proof.Layer.FfnUp
public import proofs.«01_k».proof.Proof.Layer.FfnDown
public import proofs.«01_k».proof.Proof.Layer.Final
public import proofs.«01_k».proof.Proof.Gen.Kernel2.Frame
public import proofs.«01_k».proof.Proof.Gen.Kernel3.Frame
public import proofs.«01_k».proof.Proof.Gen.Kernel4.Frame
public import Idealize.ShloMosaic.Lib.Claim

@[expose] public section

noncomputable section

namespace Cert.Proof.Layer

open Idealize.ShloMosaic Idealize.SL.Sem

theorem ref2_ends : Cert.quiescent_Reference2Ideal := fun m ρ _ =>
  (θ_run _ _ _).mono (fun r h => ⟨fun c => (h c).2.2, sem_eq_zero_of_no_sems (by decide) r.2⟩) (Cert.Reference2Ideal.Value.run m ρ)

theorem ref3_ends : Cert.quiescent_Reference3Ideal := fun m ρ _ =>
  (θ_run _ _ _).mono (fun r h => ⟨fun c => (h c).2, sem_eq_zero_of_no_sems (by decide) r.2⟩) (Cert.Reference3Ideal.Value.run m ρ)

theorem ref4_ends : Cert.quiescent_Reference4Ideal := fun m ρ _ =>
  (θ_run _ _ _).mono (fun r h => ⟨fun c => (h c).2, sem_eq_zero_of_no_sems (by decide) r.2⟩) (Cert.Reference4Ideal.Value.run m ρ)

theorem up_eq : Cert.algebraic_Kernel2Ideal_Reference2Ideal := fun m ρ m' ρ' _ hag =>
  ⟨fun c => Cert.Kernel2Ideal.FfnUp.act m c, fun c => Cert.Kernel2Ideal.FfnUp.wdown m c,
    (θ_run _ _ _).mono (fun _ h c => ⟨(h c).1.trans (Cert.Kernel2Ideal.FfnUp.final4 m c), (h c).2.1.trans (Cert.Kernel2Ideal.FfnUp.final5 m c), (h c).2.2⟩)
      (Cert.Kernel2Ideal.Value.run_blocks m ρ),
    (θ_run _ _ _).mono (fun _ h c => ⟨(h c).1.trans (by rw [(hag c).1, (hag c).2.1, (hag c).2.2.1]; exact Cert.Reference2Ideal.Read.val_main_v7_eq _ _ _),
        (h c).2.1.trans (by rw [(hag c).2.2.2]; exact Cert.Reference2Ideal.Read.val_main_v9_eq _), (h c).2.2⟩)
      (Cert.Reference2Ideal.Value.run m' ρ')⟩

theorem down_eq : Cert.algebraic_Kernel3Ideal_Reference3Ideal := fun m ρ m' ρ' _ hag =>
  ⟨fun c => Cert.Kernel3Ideal.FfnDown.out m c,
    (θ_run _ _ _).mono (fun _ h c => ⟨(h c).1.trans (Cert.Kernel3Ideal.FfnDown.final2 m c), (h c).2⟩)
      (Cert.Kernel3Ideal.Value.run_blocks m ρ),
    (θ_run _ _ _).mono (fun _ h c => ⟨(h c).1.trans (by rw [(hag c).1, (hag c).2]; exact Cert.Reference3Ideal.Read.val_main_v3_eq _ _), (h c).2⟩)
      (Cert.Reference3Ideal.Value.run m' ρ')⟩

theorem final_eq : Cert.algebraic_Kernel4Ideal_Reference4Ideal := fun m ρ m' ρ' _ hag =>
  ⟨fun c => Cert.Kernel4Ideal.Final.out m c,
    (θ_run _ _ _).mono (fun _ h c => ⟨(h c).1.trans (Cert.Kernel4Ideal.Final.final4 m c), (h c).2⟩)
      (Cert.Kernel4Ideal.Value.run_blocks m ρ),
    (θ_run _ _ _).mono (fun _ h c => ⟨(h c).1.trans (by rw [(hag c).1, (hag c).2.1, (hag c).2.2.1, (hag c).2.2.2]; exact Cert.Reference4Ideal.Read.val_main_v20_eq _ _ _ _), (h c).2⟩)
      (Cert.Reference4Ideal.Value.run m' ρ')⟩

end Cert.Proof.Layer

end
-- ==== Proof.Layer.Head.lean ====
/-
  The head of the mixer: the normed and modulated input, its projection to the low-rank columns with the shift by one
  frame carried from block to block in a scratch, and the decay, in-context rate and output gate computed from it.
-/
module

public import proofs.«01_k».proof.Proof.Gen.Kernel12Ideal.Frame
public import proofs.«01_k».proof.Proof.Gen.Reference12Ideal.Read
public import Idealize.ShloMosaic.Lib.Pipeline.ValueKit
public import Idealize.ShloMosaic.Lib.Pointwise
public import Idealize.ShloMosaic.Lib.Pipeline.ReadBack

@[expose] public section

set_option maxRecDepth 16384

noncomputable section

namespace Cert.Kernel12Ideal.Head

open Cert.Kernel12Ideal Cert.Kernel12Ideal.Gen Idealize.ShloMosaic Idealize.ShloMosaic.TcCoe Idealize.SL.Sem
open Idealize.ShloMosaic.Pipeline (Dat)

variable (m : (ℓ : Loc nD τ sig) → Buf (Elt Ideal) ℓ)

/-- The block indices of the windows, over the grid's points. -/
theorem idx : ∀ t : Fin cfg0.N, win0_0.index t = ![t.val, 0] ∧ win0_1.index t = ![0, 0] ∧ win0_2.index t = ![0, 0]
    ∧ win0_3.index t = ![0, 1] ∧ win0_4.index t = ![6144, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![t.val, 0] ∧ win0_12.index t = ![t.val, 0] ∧ win0_13.index t = ![t.val, 0]
    ∧ win0_14.index t = ![t.val, 0] :=
  (by decide +kernel : ∀ t : Fin grid0.N, _)

/-- The normed, modulated input, in the reference's own stages. -/
abbrev xm (c : Dev nD) : S8192x4096.Idx → EReal :=
  Cert.Reference12Ideal.Read.val_main_v70 (F := Ideal) (m ((c : Thread nD τ).loc main_arg0)) (m ((c : Thread nD τ).loc main_arg1)) (m ((c : Thread nD τ).loc main_arg2))

/-- The whole projection, in the reference's own stages. -/
abbrev proj (c : Dev nD) : Cert.Reference12Ideal.S8192x16096.Idx → EReal :=
  Cert.Reference12Ideal.Read.val_main_v24 (F := Ideal) (m ((c : Thread nD τ).loc main_arg0)) (m ((c : Thread nD τ).loc main_arg1)) (m ((c : Thread nD τ).loc main_arg2)) (m ((c : Thread nD τ).loc main_arg3))

/-- The shifted projection, in the reference's own stages. -/
abbrev mixed (c : Dev nD) : Cert.Reference12Ideal.S8192x6880.Idx → EReal :=
  Cert.Reference12Ideal.Read.val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg4))

/-- Row and column of the weight array's element at a flat position. -/
theorem divmod (x r : ℕ) (hr : r < 16096) (hx : x < 4096) : (x * 16096 + r) / 16096 % 4096 = x := by
  rw [Nat.mul_comm, Nat.mul_add_div (by decide), Nat.div_eq_of_lt hr, Nat.add_zero, Nat.mod_eq_of_lt hx]

theorem mulmod (x r : ℕ) (hr : r < 16096) : (x * 16096 + r) % 16096 = r := by
  rw [Nat.mul_comm, Nat.mul_add_mod, Nat.mod_eq_of_lt hr]

/-- The weight window's rows and columns: it starts at row `6144`. -/
theorem wrow (t : Fin cfg0.N) (a : Fin 768) (b : Fin 4096) :
    (((View.whole main_v1).slice (win0_4.rect t)).emb (ix2 a b) 0 : Fin _).val = 6144 + a.val := by
  refine (Pipeline.Window.rect_emb_val_off win0_4 t (ix2 a b) 0).trans ?_
  rw [(idx t).2.2.2.2.1]; rfl
theorem wcol (t : Fin cfg0.N) (a : Fin 768) (b : Fin 4096) :
    (((View.whole main_v1).slice (win0_4.rect t)).emb (ix2 a b) 1 : Fin _).val = b.val := by
  refine (Pipeline.Window.rect_emb_val_off win0_4 t (ix2 a b) 1).trans ?_
  rw [(idx t).2.2.2.2.1]; exact Nat.zero_add _

open Cert.Reference12Ideal.Read in
/-- One block's normed, modulated input is the reference's. -/
theorem xm_blk (c : Dev nD) (t : Fin cfg0.N) (a : Fin 256) (k : Fin 4096) :
    k0_pay5 (iblk m c 0 t) (iblk m c 1 t) (iblk m c 3 t) (iblk m c 2 t) (ix2 a k)
      = xm m c (ix2 ⟨256 * t.val + a.val, by have := lt_of_lt_of_eq t.isLt N_0; omega⟩ k) := by
  pointwise [k0_pay5, xm, val_main_v70, val_main_v22, val_main_v21_apply, val_main_v20, val_main_v19_apply, val_main_v18, val_main_v17_apply, val_main_cst_2, val_main_v16, val_main_v15_apply, val_main_v14_apply, val_main_v13, val_main_v12_apply, val_main_v11, val_main_v10, val_main_v9_apply, val_main_cst_1, val_main_v8, val_main_v7_apply, val_main_cst_0, val_main_v6_apply, val_main_v5_apply, val_main_v4, val_main_cst, val_main_v3_apply, val_main_v2, val_main_v1, val_main_v0]
  blk_point [iblk, V, idx t]

/-- The weight window's contents: the low-rank columns of the input weights. -/
theorem w_blk (c : Dev nD) (t : Fin cfg0.N) (j : Fin 768) (k : Fin 4096) :
    iblk m c 4 t (ix2 j k) = (m ((c : Thread nD τ).loc main_arg3) : S1x4096x16096.Idx → EReal) (ix3 0 k ⟨6144 + j.val, by omega⟩) := by
  blk_point [iblk, V, idx t]
  · exact wcol t _ _
  · refine (wrow t _ _).trans ?_; omega

/-- The held weights are the low-rank columns of the input weights at every point. -/
theorem slab (c : Dev nD) : ∀ (n : ℕ) (hn : n < cfg0.N) (j : Fin 768) (k : Fin 4096),
    (outsAt0 m c n hn).2.2.2.2.1 (ix2 j k) = (m ((c : Thread nD τ).loc main_arg3) : S1x4096x16096.Idx → EReal) (ix3 0 k ⟨6144 + j.val, by omega⟩)
  | 0, hn, j, k => by
    rw [outsAt0_A m c ⟨0, hn⟩ rfl]
    dsimp only
    frame_out
    pointwise [k0_pay3]
    exact w_blk m c ⟨0, hn⟩ j k
  | n + 1, hn, j, k => by
    have hN : n + 1 < 32 := lt_of_lt_of_eq hn N_0
    rw [outsAt0_B m c ⟨n + 1, hn⟩ (by dsimp only; omega)]
    exact slab c n (Nat.lt_of_succ_lt hn) j k

open Cert.Reference12Ideal.Read in
/-- The shifted projection at one row and column: the row before's column, or zero before the first row. -/
theorem mixed_at (c : Dev nD) (r : Fin 8192) (j : Fin 6880) :
    mixed m c (ix2 r j) = proj m c (ix2 r ⟨j.val, by omega⟩)
      + ((if h : r.val = 0 then (0 : EReal) else proj m c (ix2 ⟨r.val - 1, by omega⟩ ⟨j.val, by omega⟩)) - proj m c (ix2 r ⟨j.val, by omega⟩))
        * (m ((c : Thread nD τ).loc main_arg4) : S1x6880.Idx → EReal) (ix2 0 j) := by
  pointwise [mixed, val_main_v33_apply, val_main_v32_apply, val_main_v29_apply, val_main_v28_apply, val_main_v25_apply, val_main_v31_apply, val_main_v30_apply, val_main_v26_apply, val_main_v27, val_main_call0_v0, val_main_c, proj]
  have e1 : ∀ (r : Fin 8192) (j : Fin 6880), idx_main_v25 (ix2 r j) = ix2 r ⟨j.val, by omega⟩ := fun r j => by
    funext a; match a with | 0 => rfl | 1 => rfl
  have e2 : idx_main_v26 (idx_main_v30 (idx_main_v31 (ix2 r j))) = ix2 0 j := by
    funext a; match a with | 0 => rfl | 1 => exact Fin.ext (Nat.mod_eq_of_lt j.isLt)
  simp only [e1, e2]
  congr 3
  by_cases h : r.val = 0
  · rw [dif_neg (by omega), dif_pos h]
    exact congrArg (fun z : ℤ => ((z : ℝ) : EReal)) rfl |>.trans (by simp)
  · rw [dif_pos (by omega), dif_neg h]

open Cert.Reference12Ideal.Read in
/-- One block's projection to the low-rank columns, over weights that are the held ones. -/
theorem proj_blk (c : Dev nD) (t : Fin cfg0.N) (W : S768x4096.Idx → EReal)
    (hW : ∀ j k, W (ix2 j k) = (m ((c : Thread nD τ).loc main_arg3) : S1x4096x16096.Idx → EReal) (ix3 0 k ⟨6144 + j.val, by omega⟩))
    (a : Fin 256) (j : Fin 768) :
    k0_pay6 (iblk m c 0 t) (iblk m c 1 t) (iblk m c 3 t) (iblk m c 2 t) W (ix2 a j)
      = proj m c (ix2 ⟨256 * t.val + a.val, by have := lt_of_lt_of_eq t.isLt N_0; omega⟩ ⟨6144 + j.val, by omega⟩) := by
  pointwise [k0_pay6, proj, val_main_v24_apply, val_main_v23_apply]
  refine Finset.sum_congr rfl fun x _ => ?_
  rw [xm_blk, hW]
  refine congrArg₂ (· * ·) (congrArg _ ?_) (congrArg _ ?_)
  · funext a; match a with | 0 => rfl | 1 => rfl
  · funext a; match a with | 0 => rfl | 1 => exact Fin.ext (divmod x.val (6144 + j.val) (by omega) (by omega)).symm | 2 => exact Fin.ext (mulmod x.val (6144 + j.val) (by omega)).symm

/-- The first point's held weights. -/
theorem slab_first (c : Dev nD) (t : Fin cfg0.N) (j : Fin 768) (k : Fin 4096) :
    k0_pay3 (iblk m c 4 t) (ix2 j k) = (m ((c : Thread nD τ).loc main_arg3) : S1x4096x16096.Idx → EReal) (ix3 0 k ⟨6144 + j.val, by omega⟩) := by
  pointwise [k0_pay3]
  exact w_blk m c t j k

/-- The carried rows end with the last row of the point's projection. -/
theorem carry (c : Dev nD) (t : Fin cfg0.N) (j : Fin 768) : (outsAt0 m c t.val t.isLt).2.2.2.2.2 (ix2 7 j)
    = proj m c (ix2 ⟨256 * t.val + 255, by have := lt_of_lt_of_eq t.isLt N_0; omega⟩ ⟨6144 + j.val, by omega⟩) := by
  by_cases h0 : t.val % 32 = 0
  · rw [outsAt0_A m c t h0]
    dsimp only
    frame_out
    pointwise [k0_pay10]
    exact proj_blk m c t _ (slab_first m c t) 255 j
  · rw [outsAt0_B m c t h0]
    dsimp only
    frame_out
    rw [read_unread_whole]
    pointwise [k0_pay10]
    exact proj_blk m c t _ (slab m c _ _) 255 j

/-- The shift's factors on the low-rank columns. -/
theorem mu_blk (c : Dev nD) (t : Fin cfg0.N) (j : Fin 736) : iblk m c 5 t (ix2 0 ⟨j.val, by omega⟩)
    = (m ((c : Thread nD τ).loc main_arg4) : S1x6880.Idx → EReal) (ix2 0 ⟨6144 + j.val, by omega⟩) := by
  blk_simp [iblk, V, idx t]
  entry_read
  pointwise
  blk_simp [idx t]
  exact dif_pos j.isLt

theorem w0_blk (c : Dev nD) (t : Fin cfg0.N) (j : Fin 2048) : iblk m c 6 t (ix2 0 j)
    = (m ((c : Thread nD τ).loc main_arg5) : S1x2048.Idx → EReal) (ix2 0 j) := by
  blk_point [iblk, V, idx t]

theorem a0_blk (c : Dev nD) (t : Fin cfg0.N) (j : Fin 2048) : iblk m c 7 t (ix2 0 j)
    = (m ((c : Thread nD τ).loc main_arg7) : S1x2048.Idx → EReal) (ix2 0 j) := by
  blk_point [iblk, V, idx t]

theorem w2_blk (c : Dev nD) (t : Fin cfg0.N) (k : Fin 128) (j : Fin 2048) : iblk m c 8 t (ix2 k j)
    = (m ((c : Thread nD τ).loc main_arg6) : S1x128x2048.Idx → EReal) (ix3 0 k j) := by
  blk_point [iblk, V, idx t]

theorem a2_blk (c : Dev nD) (t : Fin cfg0.N) (k : Fin 128) (j : Fin 2048) : iblk m c 9 t (ix2 k j)
    = (m ((c : Thread nD τ).loc main_arg8) : S1x128x2048.Idx → EReal) (ix3 0 k j) := by
  blk_point [iblk, V, idx t]

theorem g2_blk (c : Dev nD) (t : Fin cfg0.N) (k : Fin 512) (j : Fin 2048) : iblk m c 10 t (ix2 k j)
    = if h : k.val < 480 then (m ((c : Thread nD τ).loc main_arg9) : S1x480x2048.Idx → EReal) (ix3 0 ⟨k.val, h⟩ j) else (0 : EReal) := by
  blk_simp [iblk, V, idx t]
  entry_read
  pointwise
  blk_simp [idx t]
  have e : (win0_10.blk t).view.emb (ix2 k j) 1 = j := by
    refine Fin.ext ?_
    blk_simp [idx t]
  rw [e]

/-- One block's shifted projection, over a block of the projection and the row carried into it. -/
theorem mixed_blk (c : Dev nD) (t : Fin cfg0.N) (v : BitVec 1) (P : S256x768.Idx → EReal) (R : S8x768.Idx → EReal)
    (hP : ∀ a j, P (ix2 a j) = proj m c (ix2 ⟨256 * t.val + a.val, by have := lt_of_lt_of_eq t.isLt N_0; omega⟩ ⟨6144 + j.val, by omega⟩))
    (hv : ∀ j, Scalar.select v (0 : EReal) (R (ix2 7 j)) = if h : t.val = 0 then 0 else proj m c (ix2 ⟨256 * t.val - 1, by have := lt_of_lt_of_eq t.isLt N_0; omega⟩ ⟨6144 + j.val, by omega⟩))
    (a : Fin 256) (j : Fin 736) :
    k0_pay9 (F := Ideal) v P (k0_pay7 (iblk m c 5 t)) (k0_pay8 R) (ix2 a ⟨j.val, by omega⟩)
      = mixed m c (ix2 ⟨256 * t.val + a.val, by have := lt_of_lt_of_eq t.isLt N_0; omega⟩ ⟨6144 + j.val, by omega⟩) := by
  rw [mixed_at]
  pointwise [k0_pay9, k0_pay8, k0_pay7]
  rw [hP, hv, mu_blk]
  have hN : t.val < 32 := lt_of_lt_of_eq t.isLt N_0
  rcases Nat.eq_zero_or_pos a.val with ha | ha
  · have e : IntOp.cmpi CmpIPredicate.eq (BitVec.ofNat 32 a.val) 0#32 = 1#1 := by rw [ha]; rfl
    rw [e, WordCmp.select_one]
    congr 3
    simp only [ha, Nat.add_zero]
    by_cases h : t.val = 0
    · rw [dif_pos h, dif_pos (by omega)]
    · rw [dif_neg h, dif_neg (by omega)]
  · have e : IntOp.cmpi CmpIPredicate.eq (BitVec.ofNat 32 a.val) 0#32 = 0#1 :=
      (WordCmp.cmpi_eq_ofNat_eq_zero_iff (w := 32) (a := a.val) (b := 0) (by omega) (by omega)).mpr (by omega)
    rw [e, WordCmp.select_zero, hP, dif_neg (by omega)]
    congr 4
    exact congrArg (fun q => ix2 q _) (Fin.ext (by show 256 * t.val + (a.val + 256 - 1) % 256 = 256 * t.val + a.val - 1; omega))

/-- The logistic function is the exponential of minus the softplus of minus its argument. -/
theorem exp_neg_softplus (u : EReal) :
    Ideal.exp (-(max (-u) 0 + Ideal.log1p (Ideal.exp (-(max (-u) (- -u)))))) = Ideal.div 1 (1 + Ideal.exp (-u)) := by
  change _ = Ideal.logistic u
  have hl : Ideal.log (1 : EReal) = 0 := by
    rw [← EReal.coe_one, Ideal.log_coe, if_neg (by norm_num), Real.log_one, EReal.coe_zero]
  have he : Ideal.exp (0 : EReal) = 1 := by
    rw [← EReal.coe_zero, Ideal.exp_coe, Real.exp_zero, EReal.coe_one]
  induction u using EReal.rec with
  | bot => simp [Ideal.log1p, hl, he]
  | top => simp [Ideal.log1p, hl, he]
  | coe x =>
    rw [Ideal.logistic_coe]
    have h1 : Ideal.log1p (Ideal.exp (-(max (-(x : EReal)) (- -(x : EReal))))) = ((Real.log (1 + Real.exp (-|x|)) : ℝ) : EReal) := by
      have : max (-(x : EReal)) (- -(x : EReal)) = ((|x| : ℝ) : EReal) := by
        rw [neg_neg, abs_eq_max_neg, max_comm]; exact (EReal.coe_strictMono.monotone.map_max).symm
      rw [this, ← EReal.coe_neg, Ideal.exp_coe, Ideal.log1p, ← EReal.coe_one, ← EReal.coe_add, Ideal.log_coe, if_neg]
      have := Real.exp_pos (-|x|); linarith
    have h2 : max (-(x : EReal)) 0 = ((max (-x) 0 : ℝ) : EReal) := by
      rw [← EReal.coe_neg, ← EReal.coe_zero]; exact (EReal.coe_strictMono.monotone.map_max).symm
    rw [h1, h2, ← EReal.coe_add, ← EReal.coe_neg, Ideal.exp_coe]
    congr 1
    have hp := Real.exp_pos (-|x|)
    rw [neg_add, Real.exp_add, Real.exp_neg (Real.log _), Real.exp_log (by linarith)]
    rcases le_total 0 x with h | h
    · rw [max_eq_right (by linarith), abs_of_nonneg h]; simp
    · rw [max_eq_left (by linarith), abs_of_nonpos h, neg_neg]
      have hx := Real.exp_pos x
      have : Real.exp (-x) = (Real.exp x)⁻¹ := Real.exp_neg x
      rw [this]; field_simp; ring
/-- A sum over the padded gate columns is the sum over the real ones and the sum over the padding. -/
theorem sum_pad (f : Fin 512 → EReal) :
    ∑ k, f k = ∑ k : Fin 480, f ⟨k.val, by omega⟩ + ∑ k : Fin 32, f ⟨480 + k.val, by omega⟩ :=
  Fin.sum_univ_add (a := 480) (b := 32) f

/-- The decay, in the reference's own stages. -/
abbrev decay (c : Dev nD) : S8192x2048.Idx → EReal :=
  Cert.Reference12Ideal.Read.val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

/-- The in-context rate, in the reference's own stages. -/
abbrev rate (c : Dev nD) : S8192x2048.Idx → EReal :=
  Cert.Reference12Ideal.Read.val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8))

/-- The output gate, in the reference's own stages. -/
abbrev gate (c : Dev nD) : S8192x2048.Idx → EReal :=
  Cert.Reference12Ideal.Read.val_main_v69 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg9))

section

variable (c : Dev nD) (t : Fin cfg0.N) (v : BitVec 1) (P : S256x768.Idx → EReal) (R : S8x768.Idx → EReal)
  (hP : ∀ a j, P (ix2 a j) = proj m c (ix2 ⟨256 * t.val + a.val, by have := lt_of_lt_of_eq t.isLt N_0; omega⟩ ⟨6144 + j.val, by omega⟩))
  (hv : ∀ j, Scalar.select v (0 : EReal) (R (ix2 7 j)) = if h : t.val = 0 then 0 else proj m c (ix2 ⟨256 * t.val - 1, by have := lt_of_lt_of_eq t.isLt N_0; omega⟩ ⟨6144 + j.val, by omega⟩))

open Cert.Reference12Ideal.Read in
include hP hv in
theorem decay_blk (a : Fin 256) (j : Fin 2048) :
    k0_pay13 (F := Ideal) v P (k0_pay7 (iblk m c 5 t)) (k0_pay8 R) (iblk m c 6 t) (iblk m c 8 t) (ix2 a j)
      = decay m c (ix2 ⟨256 * t.val + a.val, by have := lt_of_lt_of_eq t.isLt N_0; omega⟩ j) := by
  pointwise [k0_pay13, decay, val_main_v49_apply, val_main_v48_apply, val_main_cst_3, val_main_v47_apply, val_main_v46_apply, val_main_v45_apply]
  refine congrArg (Ideal.ofBits FTy.f32 3206235544#32 * ·) ?_
  have hu : HAdd.hAdd (α := EReal) (β := EReal) (γ := EReal) (iblk m c 6 t (ix2 0 j)) (∑ x : Fin 128, HMul.hMul (α := EReal) (β := EReal) (γ := EReal) (Ideal.tanh (k0_pay9 (F := Ideal) v P (k0_pay7 (iblk m c 5 t)) (k0_pay8 R) (ix2 a ⟨x.val, by omega⟩))) (iblk m c 8 t (ix2 x j)))
      = val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 ⟨256 * t.val + a.val, by have := lt_of_lt_of_eq t.isLt N_0; omega⟩ j) := by
    pointwise [val_main_v43_apply, val_main_v42_apply, val_main_v41_apply, val_main_v40_apply, val_main_v39_apply, val_main_v38_apply, val_main_v37_apply, val_main_v34_apply]
    refine congrArg₂ (· + ·) ?_ (Finset.sum_congr rfl fun x _ => congrArg₂ (· * ·) (congrArg Ideal.tanh ?_) ?_)
    · refine (w0_blk m c t j).trans (congrArg _ ?_)
      funext q; match q with | 0 => rfl | 1 => exact Fin.ext (Nat.mod_eq_of_lt j.isLt).symm
    · refine (mixed_blk m c t v P R hP hv a ⟨x.val, by omega⟩).trans (congrArg _ ?_)
      funext q; match q with | 0 => rfl | 1 => rfl
    · refine (w2_blk m c t x j).trans (congrArg _ ?_)
      funext q; match q with
      | 0 => rfl
      | 1 => exact Fin.ext (by show x.val = (x.val * 2048 + j.val) / 2048 % 128; omega)
      | 2 => exact Fin.ext (by show j.val = (x.val * 2048 + j.val) % 2048; omega)
  rw [hu]
  pointwise [val_main_call1_v11_apply, val_main_call1_v10_apply, val_main_call1_v9_apply, val_main_call1_v8_apply, val_main_call1_v7_apply, val_main_call1_v4_apply, val_main_call1_v3_apply, val_main_call1_v2_apply, val_main_call1_v1_apply, val_main_call1_v0_apply, val_main_call1_cst, val_main_v44_apply]
  rw [if_neg (fun h => h rfl)]
  simp only [sub_eq_add_neg, zero_add]
  exact (exp_neg_softplus _).symm

open Cert.Reference12Ideal.Read in
include hP hv in
theorem rate_blk (a : Fin 256) (j : Fin 2048) :
    k0_pay1 (F := Ideal) (k0_pay11 v P (k0_pay7 (iblk m c 5 t)) (k0_pay8 R)) (iblk m c 7 t) (iblk m c 9 t) (ix2 a j)
      = rate m c (ix2 ⟨256 * t.val + a.val, by have := lt_of_lt_of_eq t.isLt N_0; omega⟩ j) := by
  pointwise [k0_pay1, k0_pay11, rate, val_main_v61_apply, val_main_v60_apply, val_main_cst_5, val_main_v59_apply, val_main_v58_apply, val_main_cst_4, val_main_v57_apply, val_main_v56_apply, val_main_v55_apply, val_main_v54_apply, val_main_v53_apply, val_main_v52_apply, val_main_v51_apply, val_main_v50_apply, val_main_v35_apply]
  simp only [sub_eq_add_neg, zero_add]
  refine congrArg (fun z => Ideal.div 1 (1 + Ideal.exp (-z))) (congrArg₂ (· + ·) ?_ (Finset.sum_congr rfl fun x _ => congrArg₂ (· * ·) ?_ ?_))
  · refine (a0_blk m c t j).trans (congrArg _ ?_)
    funext q; match q with | 0 => rfl | 1 => exact Fin.ext (Nat.mod_eq_of_lt j.isLt).symm
  · refine (mixed_blk m c t v P R hP hv a ⟨128 + x.val, by omega⟩).trans (congrArg _ ?_)
    funext q; match q with | 0 => rfl | 1 => exact Fin.ext (by show 6144 + (128 + x.val) = 6272 + x.val; omega)
  · refine (a2_blk m c t x j).trans (congrArg _ ?_)
    funext q; match q with
    | 0 => rfl
    | 1 => exact Fin.ext (by show x.val = (x.val * 2048 + j.val) / 2048 % 128; omega)
    | 2 => exact Fin.ext (by show j.val = (x.val * 2048 + j.val) % 2048; omega)

open Cert.Reference12Ideal.Read in
include hP hv in
theorem gate_blk (a : Fin 256) (j : Fin 2048) :
    k0_pay2 (F := Ideal) (k0_pay12 v P (k0_pay7 (iblk m c 5 t)) (k0_pay8 R)) (iblk m c 10 t) (ix2 a j)
      = gate m c (ix2 ⟨256 * t.val + a.val, by have := lt_of_lt_of_eq t.isLt N_0; omega⟩ j) := by
  pointwise [k0_pay2, k0_pay12, gate, val_main_v69_apply, val_main_v68_apply, val_main_v67_apply, val_main_v66_apply, val_main_cst_7, val_main_v65_apply, val_main_v64_apply, val_main_cst_6, val_main_v63_apply, val_main_v62_apply, val_main_v36_apply]
  simp only [sub_eq_add_neg, zero_add]
  rw [sum_pad]
  have hz : ∀ f : Fin 32 → EReal, (∑ k : Fin 32, f k * iblk m c 10 t (ix2 ⟨480 + k.val, by omega⟩ j)) = 0 := fun f =>
    Finset.sum_eq_zero fun k _ => by
      rw [g2_blk, dif_neg (by show ¬ 480 + k.val < 480; omega), mul_zero]
  rw [hz, add_zero]
  refine Finset.sum_congr rfl fun x _ => congrArg₂ (· * ·) (congrArg (fun z => Ideal.div 1 (1 + Ideal.exp (-z))) ?_) ?_
  · refine (mixed_blk m c t v P R hP hv a ⟨256 + x.val, by omega⟩).trans (congrArg _ ?_)
    funext q; match q with | 0 => rfl | 1 => exact Fin.ext (by show 6144 + (256 + x.val) = 6400 + x.val; omega)
  · refine (g2_blk m c t ⟨x.val, by omega⟩ j).trans ((dif_pos x.isLt).trans (congrArg _ ?_))
    funext q; match q with
    | 0 => rfl
    | 1 => exact Fin.ext (by show x.val = (x.val * 2048 + j.val) / 2048 % 480; omega)
    | 2 => exact Fin.ext (by show j.val = (x.val * 2048 + j.val) % 2048; omega)

end

/-- The grid has one axis: a point's coordinate is its number. -/
theorem coord : ∀ t : Fin cfg0.N, (grid0.coords t 0).val = t.val :=
  (by decide +kernel : ∀ t : Fin grid0.N, _)

theorem sel_first (c : Dev nD) (t : Fin cfg0.N) (h0 : t.val % 32 = 0) (v : BitVec 1) (j : Fin 768) :
    Scalar.select v (0 : EReal) (k0_pay4 (F := Ideal) (ix2 7 j)) = if h : t.val = 0 then 0 else proj m c (ix2 ⟨256 * t.val - 1, by have := lt_of_lt_of_eq t.isLt N_0; omega⟩ ⟨6144 + j.val, by omega⟩) := by
  have hN : t.val < 32 := lt_of_lt_of_eq t.isLt N_0
  have e : k0_pay4 (F := Ideal) (ix2 7 j) = 0 := by pointwise [k0_pay4]
  rw [dif_pos (by omega), e]
  exact ite_self _

theorem sel_later (c : Dev nD) (t : Fin cfg0.N) (h0 : ¬ t.val % 32 = 0) (j : Fin 768) :
    Scalar.select (Scalar.cmpi CmpIPredicate.eq (BitVec.ofNat 32 (grid0.coords t 0).val) 0#32) (0 : EReal)
        ((outsAt0 m c (t.val - 1) (Nat.lt_of_le_of_lt (Nat.sub_le _ _) t.isLt)).2.2.2.2.2 (ix2 7 j))
      = if h : t.val = 0 then 0 else proj m c (ix2 ⟨256 * t.val - 1, by have := lt_of_lt_of_eq t.isLt N_0; omega⟩ ⟨6144 + j.val, by omega⟩) := by
  have hN : t.val < 32 := lt_of_lt_of_eq t.isLt N_0
  have e : Scalar.cmpi CmpIPredicate.eq (BitVec.ofNat 32 (grid0.coords t 0).val) 0#32 = 0#1 := by
    rw [coord]
    exact (WordCmp.cmpi_eq_ofNat_eq_zero_iff (w := 32) (a := t.val) (b := 0) (by omega) (by omega)).mpr (by omega)
  rw [e, WordCmp.select_zero, dif_neg (by omega)]
  refine (carry m c ⟨t.val - 1, Nat.lt_of_le_of_lt (Nat.sub_le _ _) t.isLt⟩ j).trans (congrArg (fun q => proj m c (ix2 q _)) (Fin.ext ?_))
  show 256 * (t.val - 1) + 255 = 256 * t.val - 1
  omega

theorem final11 (c : Dev nD) : (dats m 0 c).arrAt 11 cfg0.N = xm m c := by
  refine (dats m 0 c).arrAt_eq_of_covers 11 _ (by decide +kernel) fun t hf y => ?_
  blk_simp
  rw [after0_11]
  by_cases h0 : t.val % 32 = 0
  · rw [outsAt0_A m c t h0]
    dsimp only
    frame_out
    idx_vars y
    refine (xm_blk m c t y0 y1).trans (congrArg _ ?_)
    funext q; match q with
    | 0 => refine Fin.ext ?_; blk_simp [idx t]; dsimp only; omega
    | 1 => refine Fin.ext ?_; blk_simp [idx t]
  · rw [outsAt0_B m c t h0]
    dsimp only
    frame_out
    idx_vars y
    refine (xm_blk m c t y0 y1).trans (congrArg _ ?_)
    funext q; match q with
    | 0 => refine Fin.ext ?_; blk_simp [idx t]; dsimp only; omega
    | 1 => refine Fin.ext ?_; blk_simp [idx t]

theorem final12 (c : Dev nD) : (dats m 0 c).arrAt 12 cfg0.N = decay m c := by
  refine (dats m 0 c).arrAt_eq_of_covers 12 _ (by decide +kernel) fun t hf y => ?_
  blk_simp
  rw [after0_12]
  by_cases h0 : t.val % 32 = 0
  · rw [outsAt0_A m c t h0]
    dsimp only
    frame_out
    idx_vars y
    refine (decay_blk m c t _ _ _ (proj_blk m c t _ (slab_first m c t)) (sel_first m c t h0 _) y0 y1).trans (congrArg _ ?_)
    funext q; match q with
    | 0 => refine Fin.ext ?_; blk_simp [idx t]; dsimp only; omega
    | 1 => refine Fin.ext ?_; blk_simp [idx t]
  · rw [outsAt0_B m c t h0]
    dsimp only
    frame_out
    simp only [read_unread_whole]
    idx_vars y
    refine (decay_blk m c t _ _ _ (proj_blk m c t _ (slab m c _ _)) (sel_later m c t h0) y0 y1).trans (congrArg _ ?_)
    funext q; match q with
    | 0 => refine Fin.ext ?_; blk_simp [idx t]; dsimp only; omega
    | 1 => refine Fin.ext ?_; blk_simp [idx t]

theorem final13 (c : Dev nD) : (dats m 0 c).arrAt 13 cfg0.N = rate m c := by
  refine (dats m 0 c).arrAt_eq_of_covers 13 _ (by decide +kernel) fun t hf y => ?_
  blk_simp
  rw [after0_13]
  by_cases h0 : t.val % 32 = 0
  · rw [outsAt0_A m c t h0]
    dsimp only
    frame_out
    idx_vars y
    refine (rate_blk m c t _ _ _ (proj_blk m c t _ (slab_first m c t)) (sel_first m c t h0 _) y0 y1).trans (congrArg _ ?_)
    funext q; match q with
    | 0 => refine Fin.ext ?_; blk_simp [idx t]; dsimp only; omega
    | 1 => refine Fin.ext ?_; blk_simp [idx t]
  · rw [outsAt0_B m c t h0]
    dsimp only
    frame_out
    simp only [read_unread_whole]
    idx_vars y
    refine (rate_blk m c t _ _ _ (proj_blk m c t _ (slab m c _ _)) (sel_later m c t h0) y0 y1).trans (congrArg _ ?_)
    funext q; match q with
    | 0 => refine Fin.ext ?_; blk_simp [idx t]; dsimp only; omega
    | 1 => refine Fin.ext ?_; blk_simp [idx t]

theorem final14 (c : Dev nD) : (dats m 0 c).arrAt 14 cfg0.N = gate m c := by
  refine (dats m 0 c).arrAt_eq_of_covers 14 _ (by decide +kernel) fun t hf y => ?_
  blk_simp
  rw [after0_14]
  by_cases h0 : t.val % 32 = 0
  · rw [outsAt0_A m c t h0]
    dsimp only
    frame_out
    idx_vars y
    refine (gate_blk m c t _ _ _ (proj_blk m c t _ (slab_first m c t)) (sel_first m c t h0 _) y0 y1).trans (congrArg _ ?_)
    funext q; match q with
    | 0 => refine Fin.ext ?_; blk_simp [idx t]; dsimp only; omega
    | 1 => refine Fin.ext ?_; blk_simp [idx t]
  · rw [outsAt0_B m c t h0]
    dsimp only
    frame_out
    simp only [read_unread_whole]
    idx_vars y
    refine (gate_blk m c t _ _ _ (proj_blk m c t _ (slab m c _ _)) (sel_later m c t h0) y0 y1).trans (congrArg _ ?_)
    funext q; match q with
    | 0 => refine Fin.ext ?_; blk_simp [idx t]; dsimp only; omega
    | 1 => refine Fin.ext ?_; blk_simp [idx t]

/-- Where a run of the call ends: its four results hold the reference's stages, its arguments what they held. -/
theorem ends (ρ : Dev nD → PrngReg) : θ_run defs (onTc (τ := τ) (main (F := Ideal))) ⟨m, fun _ => 0, ρ⟩ fun r => ∀ c : Dev nD,
    r.2.mem ((c : Thread nD τ).loc main_v21_0) = xm m c
    ∧ r.2.mem ((c : Thread nD τ).loc main_v21_1) = decay m c
    ∧ r.2.mem ((c : Thread nD τ).loc main_v21_2) = rate m c
    ∧ r.2.mem ((c : Thread nD τ).loc main_v21_3) = gate m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8)
    ∧ r.2.mem ((c : Thread nD τ).loc main_arg9) = m ((c : Thread nD τ).loc main_arg9) :=
  (θ_run defs _ _).mono (fun _ h c => ⟨((h c).1 11).trans (final11 m c),
      ((h c).1 12).trans (final12 m c),
      ((h c).1 13).trans (final13 m c),
      ((h c).1 14).trans (final14 m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).1 3).trans (((dats m 0 c).arrAt_in 3 rfl _).trans ((A_eq m c 3).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩)
    (run_main m ρ)

end Cert.Kernel12Ideal.Head

end
-- ==== Proof.Layer.ProjRkv.lean ====
/-
  The input projection's columns for r, k and v: the result array after the run is the reference's slice of the whole product.
-/
module

public import proofs.«01_k».proof.Proof.Gen.Kernel5Ideal.Value
public import proofs.«01_k».proof.Proof.Gen.Reference5Ideal.Read
public import Idealize.ShloMosaic.Lib.Pipeline.ValueKit
public import Idealize.ShloMosaic.Lib.Pointwise

@[expose] public section

set_option maxRecDepth 16384

noncomputable section

namespace Cert.Kernel5Ideal.ProjRkv

open Cert.Kernel5Ideal Cert.Kernel5Ideal.Gen Idealize.ShloMosaic Idealize.ShloMosaic.TcCoe Idealize.SL.Sem
open Idealize.ShloMosaic.Pipeline (Dat)

variable (m : (ℓ : Loc nD τ sig) → Buf (Elt Ideal) ℓ)

/-- The block indices of the windows, over the grid's points. -/
theorem idx : ∀ t : Fin cfg0.N, win0_0.index t = ![(grid0.coords t 0).val, 0] ∧ win0_1.index t = ![0 + 512 * (grid0.coords t 1).val, 0]
    ∧ win0_2.index t = ![(grid0.coords t 0).val, (grid0.coords t 1).val] :=
  (by decide +kernel : ∀ t : Fin grid0.N, _)

/-- The projected columns as one function of the arguments, in the reference's own stages. -/
abbrev out (c : Dev nD) : S8192x6144.Idx → EReal :=
  Cert.Reference5Ideal.Read.val_main_v3 (F := Ideal) (m ((c : Thread nD τ).loc main_arg0)) (m ((c : Thread nD τ).loc main_arg1))

/-- Row and column of the weight array's element at a flat position. -/
theorem divmod (x r : ℕ) (hr : r < 16096) (hx : x < 4096) : (x * 16096 + r) / 16096 % 4096 = x := by
  rw [Nat.mul_comm, Nat.mul_add_div (by decide), Nat.div_eq_of_lt hr, Nat.add_zero, Nat.mod_eq_of_lt hx]

/-- The weight window's rows and columns: it starts at row `0 + 512 j`. -/
theorem wrow (t : Fin cfg0.N) (a : Fin 512) (b : Fin 4096) :
    (((View.whole main_v1).slice (win0_1.rect t)).emb (ix2 a b) 0 : Fin _).val =
      0 + 512 * (grid0.coords t 1).val + a.val := by
  refine (Pipeline.Window.rect_emb_val_off win0_1 t (ix2 a b) 0).trans ?_
  rw [(idx t).2.1]; rfl
theorem wcol (t : Fin cfg0.N) (a : Fin 512) (b : Fin 4096) :
    (((View.whole main_v1).slice (win0_1.rect t)).emb (ix2 a b) 1 : Fin _).val = b.val := by
  refine (Pipeline.Window.rect_emb_val_off win0_1 t (ix2 a b) 1).trans ?_
  rw [(idx t).2.1]; exact Nat.zero_add _

open Cert.Reference5Ideal.Read in
theorem final2 (c : Dev nD) : (dats m 0 c).arrAt 2 cfg0.N = out m c := by
  refine (dats m 0 c).arrAt_eq_of_covers 2 _ (by decide +kernel) fun t hf y => ?_
  blk_simp
  rw [after0_2]
  frame_out
  idx_vars y
  pointwise [k0_pay1, out, val_main_v3_apply, val_main_v2_apply, val_main_v1_apply, val_main_v0]
  have hb : (grid0.coords t 1).val < 12 := (grid0.coords t 1).isLt
  blk_point [iblk, V, idx t]
  · exact (wcol t _ _).trans (divmod _ _ (by omega) (by omega)).symm
  · refine (wrow t _ _).trans ?_; omega

end Cert.Kernel5Ideal.ProjRkv

end
-- ==== Proof.Layer.ProjU.lean ====
/-
  The input projection's columns for the S5 branch: the result array after the run is the reference's slice of the whole
  product.
-/
module

public import proofs.«01_k».proof.Proof.Gen.Kernel6Ideal.Value
public import proofs.«01_k».proof.Proof.Gen.Reference6Ideal.Read
public import Idealize.ShloMosaic.Lib.Pipeline.ValueKit
public import Idealize.ShloMosaic.Lib.Pointwise

@[expose] public section

set_option maxRecDepth 16384

noncomputable section

namespace Cert.Kernel6Ideal.ProjU

open Cert.Kernel6Ideal Cert.Kernel6Ideal.Gen Idealize.ShloMosaic Idealize.ShloMosaic.TcCoe Idealize.SL.Sem
open Idealize.ShloMosaic.Pipeline (Dat)

variable (m : (ℓ : Loc nD τ sig) → Buf (Elt Ideal) ℓ)

/-- The block indices of the windows, over the grid's points. -/
theorem idx : ∀ t : Fin cfg0.N, win0_0.index t = ![(grid0.coords t 0).val, 0] ∧ win0_1.index t = ![6880 + 512 * (grid0.coords t 1).val, 0]
    ∧ win0_2.index t = ![(grid0.coords t 0).val, (grid0.coords t 1).val] :=
  (by decide +kernel : ∀ t : Fin grid0.N, _)

/-- The projected columns as one function of the arguments, in the reference's own stages. -/
abbrev out (c : Dev nD) : S8192x1024.Idx → EReal :=
  Cert.Reference6Ideal.Read.val_main_v3 (F := Ideal) (m ((c : Thread nD τ).loc main_arg0)) (m ((c : Thread nD τ).loc main_arg1))

/-- Row and column of the weight array's element at a flat position. -/
theorem divmod (x r : ℕ) (hr : r < 16096) (hx : x < 4096) : (x * 16096 + r) / 16096 % 4096 = x := by
  rw [Nat.mul_comm, Nat.mul_add_div (by decide), Nat.div_eq_of_lt hr, Nat.add_zero, Nat.mod_eq_of_lt hx]

/-- The weight window's rows and columns: it starts at row `6880 + 512 j`. -/
theorem wrow (t : Fin cfg0.N) (a : Fin 512) (b : Fin 4096) :
    (((View.whole main_v1).slice (win0_1.rect t)).emb (ix2 a b) 0 : Fin _).val =
      6880 + 512 * (grid0.coords t 1).val + a.val := by
  refine (Pipeline.Window.rect_emb_val_off win0_1 t (ix2 a b) 0).trans ?_
  rw [(idx t).2.1]; rfl
theorem wcol (t : Fin cfg0.N) (a : Fin 512) (b : Fin 4096) :
    (((View.whole main_v1).slice (win0_1.rect t)).emb (ix2 a b) 1 : Fin _).val = b.val := by
  refine (Pipeline.Window.rect_emb_val_off win0_1 t (ix2 a b) 1).trans ?_
  rw [(idx t).2.1]; exact Nat.zero_add _

open Cert.Reference6Ideal.Read in
theorem final2 (c : Dev nD) : (dats m 0 c).arrAt 2 cfg0.N = out m c := by
  refine (dats m 0 c).arrAt_eq_of_covers 2 _ (by decide +kernel) fun t hf y => ?_
  blk_simp
  rw [after0_2]
  frame_out
  idx_vars y
  pointwise [k0_pay1, out, val_main_v3_apply, val_main_v2_apply, val_main_v1_apply, val_main_v0]
  have hb : (grid0.coords t 1).val < 2 := (grid0.coords t 1).isLt
  blk_point [iblk, V, idx t]
  · exact (wcol t _ _).trans (divmod _ _ (by omega) (by omega)).symm
  · refine (wrow t _ _).trans ?_; omega

end Cert.Kernel6Ideal.ProjU

end
-- ==== Proof.Layer.ProjG.lean ====
/-
  The input projection's columns for the two branch gates, and the second half of the conditioning vector computed beside
  them, block by block.
-/
module

public import proofs.«01_k».proof.Proof.Gen.Kernel7Ideal.Value
public import proofs.«01_k».proof.Proof.Gen.Reference7Ideal.Read
public import Idealize.ShloMosaic.Lib.Pipeline.ValueKit
public import Idealize.ShloMosaic.Lib.Pointwise

@[expose] public section

set_option maxRecDepth 16384

noncomputable section

namespace Cert.Kernel7Ideal.ProjG

open Cert.Kernel7Ideal Cert.Kernel7Ideal.Gen Idealize.ShloMosaic Idealize.ShloMosaic.TcCoe Idealize.SL.Sem
open Idealize.ShloMosaic.Pipeline (Dat)

variable (m : (ℓ : Loc nD τ sig) → Buf (Elt Ideal) ℓ)

/-- The block indices of the windows, over the grid's points. -/
theorem idx : ∀ t : Fin cfg0.N, win0_0.index t = ![(grid0.coords t 0).val, 0] ∧ win0_1.index t = ![7904 + 512 * (grid0.coords t 1).val, 0]
    ∧ win0_3.index t = ![0, 96 + min (16 * (grid0.coords t 0).val + (grid0.coords t 1).val) 95] ∧ win0_4.index t = ![0, 96 + min (16 * (grid0.coords t 0).val + (grid0.coords t 1).val) 95]
    ∧ win0_2.index t = ![0, 0] ∧ win0_5.index t = ![(grid0.coords t 0).val, (grid0.coords t 1).val] ∧ win0_6.index t = ![0, min (16 * (grid0.coords t 0).val + (grid0.coords t 1).val) 95] :=
  (by decide +kernel : ∀ t : Fin grid0.N, _)

/-- The projected columns as one function of the arguments, in the reference's own stages. -/
abbrev gates (c : Dev nD) : S8192x8192.Idx → EReal :=
  Cert.Reference7Ideal.Read.val_main_v10 (F := Ideal) (m ((c : Thread nD τ).loc main_arg0)) (m ((c : Thread nD τ).loc main_arg1))

/-- The conditioning vector's second half, in the reference's own stages. -/
abbrev mod (c : Dev nD) : S1x12288.Idx → EReal :=
  Cert.Reference7Ideal.Read.val_main_v11 (F := Ideal) (m ((c : Thread nD τ).loc main_arg2)) (m ((c : Thread nD τ).loc main_arg3)) (m ((c : Thread nD τ).loc main_arg4))

/-- Row and column of the weight array's element at a flat position. -/
theorem divmod (x r : ℕ) (hr : r < 16096) (hx : x < 4096) : (x * 16096 + r) / 16096 % 4096 = x := by
  rw [Nat.mul_comm, Nat.mul_add_div (by decide), Nat.div_eq_of_lt hr, Nat.add_zero, Nat.mod_eq_of_lt hx]

/-- The weight window's rows and columns: it starts at row `7904 + 512 j`. -/
theorem wrow (t : Fin cfg0.N) (a : Fin 512) (b : Fin 4096) :
    (((View.whole main_v1).slice (win0_1.rect t)).emb (ix2 a b) 0 : Fin _).val =
      7904 + 512 * (grid0.coords t 1).val + a.val := by
  refine (Pipeline.Window.rect_emb_val_off win0_1 t (ix2 a b) 0).trans ?_
  rw [(idx t).2.1]; rfl
theorem wcol (t : Fin cfg0.N) (a : Fin 512) (b : Fin 4096) :
    (((View.whole main_v1).slice (win0_1.rect t)).emb (ix2 a b) 1 : Fin _).val = b.val := by
  refine (Pipeline.Window.rect_emb_val_off win0_1 t (ix2 a b) 1).trans ?_
  rw [(idx t).2.1]; exact Nat.zero_add _

open Cert.Reference7Ideal.Read in
theorem final5 (c : Dev nD) : (dats m 0 c).arrAt 5 cfg0.N = gates m c := by
  refine (dats m 0 c).arrAt_eq_of_covers 5 _ (by decide +kernel) fun t hf y => ?_
  blk_simp
  rw [after0_5]
  frame_out
  idx_vars y
  pointwise [k0_pay1, gates, val_main_v11_apply, val_main_v10, val_main_v9_apply, val_main_v8, val_main_v7_apply, val_main_v6_apply, val_main_v5_apply, val_main_v4_apply, val_main_v3_apply, val_main_v2_apply, val_main_v1_apply, val_main_v0]
  have hb : (grid0.coords t 1).val < 16 := (grid0.coords t 1).isLt
  blk_point [iblk, V, idx t]
  · exact (wcol t _ _).trans (divmod _ _ (by omega) (by omega)).symm
  · refine (wrow t _ _).trans ?_; omega

/-- A sum over 4096 rows, regrouped: row `512 k + 8 r + x` is the `r`-th row of the `x`-th partial sum of slab `k`. -/
theorem regroup_sum (f : Fin 4096 → EReal) : ∑ x, f x = ∑ x : Fin 8,
    ((∑ r : Fin 64, f ⟨r.val * 8 + x.val, by omega⟩) +
      (∑ r : Fin 64, f ⟨512 + (r.val * 8 + x.val), by omega⟩) +
      (∑ r : Fin 64, f ⟨1024 + (r.val * 8 + x.val), by omega⟩) +
      (∑ r : Fin 64, f ⟨1536 + (r.val * 8 + x.val), by omega⟩) +
      (∑ r : Fin 64, f ⟨2048 + (r.val * 8 + x.val), by omega⟩) +
      (∑ r : Fin 64, f ⟨2560 + (r.val * 8 + x.val), by omega⟩) +
      (∑ r : Fin 64, f ⟨3072 + (r.val * 8 + x.val), by omega⟩) +
      (∑ r : Fin 64, f ⟨3584 + (r.val * 8 + x.val), by omega⟩)) := by
  have h : ∑ x, f x = ∑ x : Fin 8, ∑ k : Fin 8, ∑ r : Fin 64, f ⟨512 * k.val + (r.val * 8 + x.val), by omega⟩ := by
    rw [← Fintype.sum_prod_type' (f := fun (x : Fin 8) (k : Fin 8) => ∑ r : Fin 64, f ⟨512 * k.val + (r.val * 8 + x.val), by omega⟩),
      ← Fintype.sum_prod_type' (f := fun (p : Fin 8 × Fin 8) (r : Fin 64) => f ⟨512 * p.2.val + (r.val * 8 + p.1.val), by omega⟩)]
    refine (Fintype.sum_bijective (fun p : (Fin 8 × Fin 8) × Fin 64 => (⟨512 * p.1.2.val + (p.2.val * 8 + p.1.1.val), by omega⟩ : Fin 4096))
      ⟨?_, ?_⟩ _ _ fun _ => rfl).symm
    · rintro ⟨⟨x, k⟩, r⟩ ⟨⟨x', k'⟩, r'⟩ hh
      have := congrArg Fin.val hh
      simp only at this
      simp only [Prod.mk.injEq, Fin.ext_iff]
      omega
    · intro n
      exact ⟨((⟨n.val % 8, by omega⟩, ⟨n.val / 512, by omega⟩), ⟨n.val % 512 / 8, by omega⟩), Fin.ext (by simp only; omega)⟩
  rw [h]
  refine Finset.sum_congr rfl fun x _ => ?_
  rw [Fin.sum_univ_eight]
  simp only [Fin.val_zero, Nat.mul_zero, Nat.zero_add]
  rfl

/-- The same of a sum of products, the factors in the other order. -/
theorem regroup (a b : Fin 4096 → EReal) : ∑ x, a x * b x = ∑ x : Fin 8,
    ((∑ r : Fin 64, b ⟨r.val * 8 + x.val, by omega⟩ * a ⟨r.val * 8 + x.val, by omega⟩) +
      (∑ r : Fin 64, b ⟨512 + (r.val * 8 + x.val), by omega⟩ * a ⟨512 + (r.val * 8 + x.val), by omega⟩) +
      (∑ r : Fin 64, b ⟨1024 + (r.val * 8 + x.val), by omega⟩ * a ⟨1024 + (r.val * 8 + x.val), by omega⟩) +
      (∑ r : Fin 64, b ⟨1536 + (r.val * 8 + x.val), by omega⟩ * a ⟨1536 + (r.val * 8 + x.val), by omega⟩) +
      (∑ r : Fin 64, b ⟨2048 + (r.val * 8 + x.val), by omega⟩ * a ⟨2048 + (r.val * 8 + x.val), by omega⟩) +
      (∑ r : Fin 64, b ⟨2560 + (r.val * 8 + x.val), by omega⟩ * a ⟨2560 + (r.val * 8 + x.val), by omega⟩) +
      (∑ r : Fin 64, b ⟨3072 + (r.val * 8 + x.val), by omega⟩ * a ⟨3072 + (r.val * 8 + x.val), by omega⟩) +
      (∑ r : Fin 64, b ⟨3584 + (r.val * 8 + x.val), by omega⟩ * a ⟨3584 + (r.val * 8 + x.val), by omega⟩)) := by
  rw [Finset.sum_congr rfl fun x _ => mul_comm (a x) (b x)]
  exact regroup_sum fun x => b x * a x

open Cert.Reference7Ideal.Read in
theorem final6 (c : Dev nD) : (dats m 0 c).arrAt 6 cfg0.N = mod m c := by
  refine (dats m 0 c).arrAt_eq_of_covers 6 _ (by decide +kernel) fun t hf y => ?_
  blk_simp
  rw [after0_6]
  frame_out
  idx_vars y
  pointwise [k0_pay5, k0_pay4, k0_pay3, k0_pay2, mod, val_main_v11_apply, val_main_v10, val_main_v9_apply, val_main_v8, val_main_v7_apply, val_main_v6_apply, val_main_v5_apply, val_main_v4_apply, val_main_v3_apply, val_main_v2_apply, val_main_v1_apply, val_main_v0]
  rw [regroup]
  have hb : (grid0.coords t 1).val < 16 := (grid0.coords t 1).isLt
  have hb : (grid0.coords t 0).val < 8 := (grid0.coords t 0).isLt
  blk_point [iblk, V, idx t] <;> trace_state

end Cert.Kernel7Ideal.ProjG

end
-- ==== Proof.Layer.Merge.lean ====
/-
  The gated sum of the two branches' up projections: the result array after the run is the reference's.
-/
module

public import proofs.«01_k».proof.Proof.Gen.Kernel8Ideal.Value
public import proofs.«01_k».proof.Proof.Gen.Reference8Ideal.Read
public import Idealize.ShloMosaic.Lib.Pipeline.ValueKit
public import Idealize.ShloMosaic.Lib.Pointwise

@[expose] public section

set_option maxRecDepth 16384

noncomputable section

namespace Cert.Kernel8Ideal.Merge

open Cert.Kernel8Ideal Cert.Kernel8Ideal.Gen Idealize.ShloMosaic Idealize.ShloMosaic.TcCoe Idealize.SL.Sem
open Idealize.ShloMosaic.Pipeline (Dat)

variable (m : (ℓ : Loc nD τ sig) → Buf (Elt Ideal) ℓ)

/-- The block indices of the windows, over the grid's points. -/
theorem idx : ∀ t : Fin cfg0.N, win0_0.index t = ![(grid0.coords t 0).val, 0] ∧ win0_1.index t = ![(grid0.coords t 0).val, 0]
    ∧ win0_2.index t = ![0, (grid0.coords t 1).val] ∧ win0_3.index t = ![0, (grid0.coords t 1).val] ∧ win0_4.index t = ![(grid0.coords t 0).val, (grid0.coords t 1).val]
    ∧ win0_5.index t = ![(grid0.coords t 0).val, (grid0.coords t 1).val + 8] ∧ win0_6.index t = ![(grid0.coords t 0).val, (grid0.coords t 1).val] :=
  (by decide +kernel : ∀ t : Fin grid0.N, _)

/-- The merged branches as one function of the arguments, in the reference's own stages. -/
abbrev out (c : Dev nD) : S8192x4096.Idx → EReal :=
  Cert.Reference8Ideal.Read.val_main_v24 (F := Ideal) (m ((c : Thread nD τ).loc main_arg0)) (m ((c : Thread nD τ).loc main_arg1)) (m ((c : Thread nD τ).loc main_arg2)) (m ((c : Thread nD τ).loc main_arg3)) (m ((c : Thread nD τ).loc main_arg4))

open Cert.Reference8Ideal.Read in
theorem final6 (c : Dev nD) : (dats m 0 c).arrAt 6 cfg0.N = out m c := by
  refine (dats m 0 c).arrAt_eq_of_covers 6 _ (by decide +kernel) fun t hf y => ?_
  blk_simp
  rw [after0_6]
  frame_out
  idx_vars y
  pointwise [k0_pay1, out, val_main_v24, val_main_v23, val_main_v22, val_main_v21_apply, val_main_v20_apply, val_main_v19, val_main_v18, val_main_v17_apply, val_main_cst_2, val_main_v16, val_main_v15_apply, val_main_cst_1, val_main_v14, val_main_v13, val_main_v12, val_main_v11_apply, val_main_v10_apply, val_main_v9, val_main_v8, val_main_v7_apply, val_main_cst_0, val_main_v6, val_main_v5_apply, val_main_cst, val_main_v4, val_main_v3, val_main_v2_apply, val_main_v1_apply, val_main_v0]
  simp only [sub_eq_add_neg, zero_add]
  have hb : (grid0.coords t 1).val < 8 := (grid0.coords t 1).isLt
  blk_point [iblk, V, idx t] <;> omega

end Cert.Kernel8Ideal.Merge

end
-- ==== Proof.Layer.WOut.lean ====
/-
  The mixer's output projection: the result array after the run is the reference's.
-/
module

public import proofs.«01_k».proof.Proof.Gen.Kernel9Ideal.Value
public import proofs.«01_k».proof.Proof.Gen.Reference9Ideal.Read
public import Idealize.ShloMosaic.Lib.Pipeline.ValueKit
public import Idealize.ShloMosaic.Lib.Pointwise

@[expose] public section

set_option maxRecDepth 16384

noncomputable section

namespace Cert.Kernel9Ideal.WOut

open Cert.Kernel9Ideal Cert.Kernel9Ideal.Gen Idealize.ShloMosaic Idealize.ShloMosaic.TcCoe Idealize.SL.Sem
open Idealize.ShloMosaic.Pipeline (Dat)

variable (m : (ℓ : Loc nD τ sig) → Buf (Elt Ideal) ℓ)

/-- The block indices of the windows, over the grid's points. -/
theorem idx : ∀ t : Fin cfg0.N, win0_0.index t = ![(grid0.coords t 0).val, 0] ∧ win0_1.index t = ![0, (grid0.coords t 1).val] ∧ win0_2.index t = ![(grid0.coords t 0).val, (grid0.coords t 1).val] :=
  (by decide +kernel : ∀ t : Fin grid0.N, _)

/-- The projection as one function of the arguments, in the reference's own stages. -/
abbrev out (c : Dev nD) : S8192x4096.Idx → EReal :=
  Cert.Reference9Ideal.Read.val_main_v3 (F := Ideal) (m ((c : Thread nD τ).loc main_arg0)) (m ((c : Thread nD τ).loc main_arg1))

open Cert.Reference9Ideal.Read in
theorem final2 (c : Dev nD) : (dats m 0 c).arrAt 2 cfg0.N = out m c := by
  refine (dats m 0 c).arrAt_eq_of_covers 2 _ (by decide +kernel) fun t hf y => ?_
  blk_simp
  rw [after0_2]
  frame_out
  idx_vars y
  pointwise [k0_pay1, out, val_main_v3, val_main_v2_apply, val_main_v1_apply, val_main_v0]
  have hb : (grid0.coords t 1).val < 8 := (grid0.coords t 1).isLt
  blk_point [iblk, V, idx t] <;> omega

end Cert.Kernel9Ideal.WOut

end
-- ==== Proof.Layer.Mid.lean ====
/-
  Between the mixer and the feed-forward block: the residual stream after the mixer, and its normalised, shifted and scaled
  copy. The result arrays after the run are the reference's.
-/
module

public import proofs.«01_k».proof.Proof.Gen.Kernel10Ideal.Value
public import proofs.«01_k».proof.Proof.Gen.Reference10Ideal.Read
public import Idealize.ShloMosaic.Lib.Pipeline.ValueKit
public import Idealize.ShloMosaic.Lib.Pointwise

@[expose] public section

set_option maxRecDepth 16384

noncomputable section

namespace Cert.Kernel10Ideal.Mid

open Cert.Kernel10Ideal Cert.Kernel10Ideal.Gen Idealize.ShloMosaic Idealize.ShloMosaic.TcCoe Idealize.SL.Sem
open Idealize.ShloMosaic.Pipeline (Dat)

variable (m : (ℓ : Loc nD τ sig) → Buf (Elt Ideal) ℓ)

/-- The block indices of the windows, over the grid's points. -/
theorem idx : ∀ t : Fin cfg0.N, win0_0.index t = ![t.val, 0] ∧ win0_1.index t = ![t.val, 0] ∧ win0_2.index t = ![0, 0]
    ∧ win0_3.index t = ![0, 2] ∧ win0_4.index t = ![0, 0] ∧ win0_5.index t = ![0, 0] ∧ win0_6.index t = ![0, 1]
    ∧ win0_7.index t = ![t.val, 0] ∧ win0_8.index t = ![t.val, 0] :=
  (by decide +kernel : ∀ t : Fin grid0.N, _)

/-- The residual stream after the mixer, in the reference's own stages. -/
abbrev resid (c : Dev nD) : S8192x4096.Idx → EReal :=
  Cert.Reference10Ideal.Read.val_main_v23 (F := Ideal) (m ((c : Thread nD τ).loc main_arg0)) (m ((c : Thread nD τ).loc main_arg1)) (m ((c : Thread nD τ).loc main_arg2)) (m ((c : Thread nD τ).loc main_arg4))

/-- The feed-forward block's input, in the reference's own stages. -/
abbrev normed (c : Dev nD) : S8192x4096.Idx → EReal :=
  Cert.Reference10Ideal.Read.val_main_v44 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

open Cert.Reference10Ideal.Read in
theorem final7 (c : Dev nD) : (dats m 0 c).arrAt 7 cfg0.N = resid m c := by
  refine (dats m 0 c).arrAt_eq_of_covers 7 _ (by decide +kernel) fun t hf y => ?_
  blk_simp
  rw [after0_7]
  frame_out
  idx_vars y
  pointwise [k0_pay2, resid, val_main_v44, val_main_v43, val_main_v42_apply, val_main_v41, val_main_v40_apply, val_main_v39, val_main_v38_apply, val_main_cst_5, val_main_v37, val_main_v36_apply, val_main_v35_apply, val_main_v34, val_main_v33_apply, val_main_v32, val_main_v31, val_main_v30_apply, val_main_cst_4, val_main_v29, val_main_v28_apply, val_main_cst_3, val_main_v27_apply, val_main_v26_apply, val_main_cst_2, val_main_v25, val_main_v24_apply, val_main_v23, val_main_v22, val_main_v21_apply, val_main_v20, val_main_v19_apply, val_main_v18_apply, val_main_v17, val_main_v16_apply, val_main_v15, val_main_v14, val_main_v13_apply, val_main_cst_1, val_main_v12, val_main_v11_apply, val_main_cst_0, val_main_v10_apply, val_main_v9_apply, val_main_cst, val_main_v8, val_main_v7_apply, val_main_v6, val_main_v5_apply, val_main_v4_apply, val_main_v3_apply, val_main_v2_apply, val_main_v1_apply, val_main_v0_apply]
  blk_point [iblk, V, idx t]

open Cert.Reference10Ideal.Read in
theorem final8 (c : Dev nD) : (dats m 0 c).arrAt 8 cfg0.N = normed m c := by
  refine (dats m 0 c).arrAt_eq_of_covers 8 _ (by decide +kernel) fun t hf y => ?_
  blk_simp
  rw [after0_8]
  frame_out
  idx_vars y
  pointwise [k0_pay1, k0_pay2, k0_pay3, normed, val_main_v44, val_main_v43, val_main_v42_apply, val_main_v41, val_main_v40_apply, val_main_v39, val_main_v38_apply, val_main_cst_5, val_main_v37, val_main_v36_apply, val_main_v35_apply, val_main_v34, val_main_v33_apply, val_main_v32, val_main_v31, val_main_v30_apply, val_main_cst_4, val_main_v29, val_main_v28_apply, val_main_cst_3, val_main_v27_apply, val_main_v26_apply, val_main_cst_2, val_main_v25, val_main_v24_apply, val_main_v23, val_main_v22, val_main_v21_apply, val_main_v20, val_main_v19_apply, val_main_v18_apply, val_main_v17, val_main_v16_apply, val_main_v15, val_main_v14, val_main_v13_apply, val_main_cst_1, val_main_v12, val_main_v11_apply, val_main_cst_0, val_main_v10_apply, val_main_v9_apply, val_main_cst, val_main_v8, val_main_v7_apply, val_main_v6, val_main_v5_apply, val_main_v4_apply, val_main_v3_apply, val_main_v2_apply, val_main_v1_apply, val_main_v0_apply]
  blk_point [iblk, V, idx t]

end Cert.Kernel10Ideal.Mid

end
-- ==== Proof.Layer.Ada.lean ====
/-
  The first half of the conditioning vector: each block of columns is a sum over 4096 rows, taken in eight slabs of 512 rows,
  each slab in eight interleaved partial sums.
-/
module

public import proofs.«01_k».proof.Proof.Gen.Kernel11Ideal.Value
public import proofs.«01_k».proof.Proof.Gen.Reference11Ideal.Read
public import Idealize.ShloMosaic.Lib.Pipeline.ValueKit
public import Idealize.ShloMosaic.Lib.Pointwise

@[expose] public section

set_option maxRecDepth 16384

noncomputable section

namespace Cert.Kernel11Ideal.Ada

open Cert.Kernel11Ideal Cert.Kernel11Ideal.Gen Idealize.ShloMosaic Idealize.ShloMosaic.TcCoe Idealize.SL.Sem
open Idealize.ShloMosaic.Pipeline (Dat)

variable (m : (ℓ : Loc nD τ sig) → Buf (Elt Ideal) ℓ)

/-- The block indices of the windows, over the grid's points. -/
theorem idx : ∀ t : Fin cfg0.N, win0_0.index t = ![0, 0] ∧ win0_1.index t = ![0, t.val] ∧ win0_2.index t = ![0, t.val]
    ∧ win0_3.index t = ![0, t.val] ∧ win0_4.index t = ![0, 0] :=
  (by decide +kernel : ∀ t : Fin grid0.N, _)

/-- The modulation's first half, in the reference's own stages. -/
abbrev mod (c : Dev nD) : S1x12288.Idx → EReal :=
  Cert.Reference11Ideal.Read.val_main_v6 (F := Ideal) (m ((c : Thread nD τ).loc main_arg0)) (m ((c : Thread nD τ).loc main_arg1)) (m ((c : Thread nD τ).loc main_arg2))

/-- The activated conditioning vector, in the reference's own stages. -/
abbrev cs (c : Dev nD) : S4096x1.Idx → EReal :=
  Cert.Reference11Ideal.Read.val_main_v7 (F := Ideal) (m ((c : Thread nD τ).loc main_arg0))

open Cert.Reference11Ideal.Read in
theorem final4 (c : Dev nD) : (dats m 0 c).arrAt 4 cfg0.N = cs m c := by
  refine (dats m 0 c).arrAt_eq_of_covers 4 _ (by decide +kernel) fun t hf y => ?_
  blk_simp
  rw [after0_4]
  frame_out
  idx_vars y
  pointwise [k0_pay1, cs, val_main_v7_apply, val_main_v6_apply, val_main_v5, val_main_v4_apply, val_main_v3_apply, val_main_v2_apply, val_main_v1_apply, val_main_v0, val_main_call0_v5, val_main_call0_v4_apply, val_main_call0_cst_0, val_main_call0_v3, val_main_call0_v2_apply, val_main_call0_cst, val_main_call0_v1, val_main_call0_v0]
  simp only [sub_eq_add_neg, zero_add]
  blk_point [iblk, V, idx t]

/-- A sum over 4096 rows, regrouped: row `512 k + 8 r + x` is the `r`-th row of the `x`-th partial sum of slab `k`. -/
theorem regroup_sum (f : Fin 4096 → EReal) : ∑ x, f x = ∑ x : Fin 8,
    ((∑ r : Fin 64, f ⟨r.val * 8 + x.val, by omega⟩) +
      (∑ r : Fin 64, f ⟨512 + (r.val * 8 + x.val), by omega⟩) +
      (∑ r : Fin 64, f ⟨1024 + (r.val * 8 + x.val), by omega⟩) +
      (∑ r : Fin 64, f ⟨1536 + (r.val * 8 + x.val), by omega⟩) +
      (∑ r : Fin 64, f ⟨2048 + (r.val * 8 + x.val), by omega⟩) +
      (∑ r : Fin 64, f ⟨2560 + (r.val * 8 + x.val), by omega⟩) +
      (∑ r : Fin 64, f ⟨3072 + (r.val * 8 + x.val), by omega⟩) +
      (∑ r : Fin 64, f ⟨3584 + (r.val * 8 + x.val), by omega⟩)) := by
  have h : ∑ x, f x = ∑ x : Fin 8, ∑ k : Fin 8, ∑ r : Fin 64, f ⟨512 * k.val + (r.val * 8 + x.val), by omega⟩ := by
    rw [← Fintype.sum_prod_type' (f := fun (x : Fin 8) (k : Fin 8) => ∑ r : Fin 64, f ⟨512 * k.val + (r.val * 8 + x.val), by omega⟩),
      ← Fintype.sum_prod_type' (f := fun (p : Fin 8 × Fin 8) (r : Fin 64) => f ⟨512 * p.2.val + (r.val * 8 + p.1.val), by omega⟩)]
    refine (Fintype.sum_bijective (fun p : (Fin 8 × Fin 8) × Fin 64 => (⟨512 * p.1.2.val + (p.2.val * 8 + p.1.1.val), by omega⟩ : Fin 4096))
      ⟨?_, ?_⟩ _ _ fun _ => rfl).symm
    · rintro ⟨⟨x, k⟩, r⟩ ⟨⟨x', k'⟩, r'⟩ hh
      have := congrArg Fin.val hh
      simp only at this
      simp only [Prod.mk.injEq, Fin.ext_iff]
      omega
    · intro n
      exact ⟨((⟨n.val % 8, by omega⟩, ⟨n.val / 512, by omega⟩), ⟨n.val % 512 / 8, by omega⟩), Fin.ext (by simp only; omega)⟩
  rw [h]
  refine Finset.sum_congr rfl fun x _ => ?_
  rw [Fin.sum_univ_eight]
  simp only [Fin.val_zero, Nat.mul_zero, Nat.zero_add]
  rfl

/-- The same of a sum of products, the factors in the other order. -/
theorem regroup (a b : Fin 4096 → EReal) : ∑ x, a x * b x = ∑ x : Fin 8,
    ((∑ r : Fin 64, b ⟨r.val * 8 + x.val, by omega⟩ * a ⟨r.val * 8 + x.val, by omega⟩) +
      (∑ r : Fin 64, b ⟨512 + (r.val * 8 + x.val), by omega⟩ * a ⟨512 + (r.val * 8 + x.val), by omega⟩) +
      (∑ r : Fin 64, b ⟨1024 + (r.val * 8 + x.val), by omega⟩ * a ⟨1024 + (r.val * 8 + x.val), by omega⟩) +
      (∑ r : Fin 64, b ⟨1536 + (r.val * 8 + x.val), by omega⟩ * a ⟨1536 + (r.val * 8 + x.val), by omega⟩) +
      (∑ r : Fin 64, b ⟨2048 + (r.val * 8 + x.val), by omega⟩ * a ⟨2048 + (r.val * 8 + x.val), by omega⟩) +
      (∑ r : Fin 64, b ⟨2560 + (r.val * 8 + x.val), by omega⟩ * a ⟨2560 + (r.val * 8 + x.val), by omega⟩) +
      (∑ r : Fin 64, b ⟨3072 + (r.val * 8 + x.val), by omega⟩ * a ⟨3072 + (r.val * 8 + x.val), by omega⟩) +
      (∑ r : Fin 64, b ⟨3584 + (r.val * 8 + x.val), by omega⟩ * a ⟨3584 + (r.val * 8 + x.val), by omega⟩)) := by
  rw [Finset.sum_congr rfl fun x _ => mul_comm (a x) (b x)]
  exact regroup_sum fun x => b x * a x

open Cert.Reference11Ideal.Read in
theorem final3 (c : Dev nD) : (dats m 0 c).arrAt 3 cfg0.N = mod m c := by
  refine (dats m 0 c).arrAt_eq_of_covers 3 _ (by decide +kernel) fun t hf y => ?_
  blk_simp
  rw [after0_3]
  frame_out
  idx_vars y
  pointwise [k0_pay5, k0_pay4, k0_pay3, k0_pay2, k0_pay1, mod, val_main_v7_apply, val_main_v6_apply, val_main_v5, val_main_v4_apply, val_main_v3_apply, val_main_v2_apply, val_main_v1_apply, val_main_v0, val_main_call0_v5, val_main_call0_v4_apply, val_main_call0_cst_0, val_main_call0_v3, val_main_call0_v2_apply, val_main_call0_cst, val_main_call0_v1, val_main_call0_v0]
  simp only [sub_eq_add_neg, zero_add]
  rw [regroup]
  blk_point [iblk, V, idx t]

end Cert.Kernel11Ideal.Ada

end
-- ==== Proof.Layer.Tables.lean ====
/-
  The tables of the S5 branch: the powers of each state's decay over one block and their inverses, the power that carries a state
  over half a block, and the scale of the input. The result arrays after the run are the reference's.
-/
module

public import proofs.«01_k».proof.Proof.Gen.Kernel14Ideal.Value
public import proofs.«01_k».proof.Proof.Gen.Reference14Ideal.Read
public import Idealize.ShloMosaic.Lib.Pipeline.ValueKit
public import Idealize.ShloMosaic.Lib.Pointwise

@[expose] public section

set_option maxRecDepth 16384

noncomputable section

namespace Cert.Kernel14Ideal.Tables

open Cert.Kernel14Ideal Cert.Kernel14Ideal.Gen Idealize.ShloMosaic Idealize.ShloMosaic.TcCoe Idealize.SL.Sem
open Idealize.ShloMosaic.Pipeline (Dat)

variable (m : (ℓ : Loc nD τ sig) → Buf (Elt Ideal) ℓ)

/-- The windows' block indices at the one grid point. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0] :=
  (by decide +kernel : ∀ t : Fin grid0.N, _)

/-- Nought less a number is its negative. -/
theorem zeroSub (x : EReal) : (0 : EReal) - x = -x := by rw [sub_eq_add_neg, zero_add]

/-- Real parts of the powers, in the reference's own stages. -/
abbrev posRe (c : Dev nD) : S128x4096.Idx → EReal :=
  Cert.Reference14Ideal.Read.val_main_v102 (F := Ideal) (m ((c : Thread nD τ).loc main_arg0)) (m ((c : Thread nD τ).loc main_arg1)) (m ((c : Thread nD τ).loc main_arg2))

open Cert.Reference14Ideal.Read in
set_option maxHeartbeats 2000000 in
theorem final3 (c : Dev nD) : (dats m 0 c).arrAt 3 cfg0.N = posRe m c := by
  refine (dats m 0 c).arrAt_eq_of_covers 3 _ (by decide +kernel) fun t hf y => ?_
  blk_simp
  rw [after0_3]
  frame_out
  idx_vars y
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, posRe, val_main_v102, val_main_v50_apply, val_main_v49_apply, val_main_v48_apply, val_main_v47, val_main_v46, val_main_v45, val_main_v44_apply, val_main_v43, val_main_v42_apply, val_main_v41_apply, val_main_v40, val_main_v39, val_main_v38, val_main_v37_apply, val_main_v36, val_main_v35, val_main_v34_apply, val_main_v33_apply, val_main_v32, val_main_c_apply, val_main_v31_apply, val_main_v4, val_main_v3_apply, val_main_v2, val_main_v1, val_main_v0]
  blk_point [iblk, V, idx t]

/-- Imaginary parts of the powers, in the reference's own stages. -/
abbrev posIm (c : Dev nD) : S128x4096.Idx → EReal :=
  Cert.Reference14Ideal.Read.val_main_v103 (F := Ideal) (m ((c : Thread nD τ).loc main_arg0)) (m ((c : Thread nD τ).loc main_arg1)) (m ((c : Thread nD τ).loc main_arg2))

open Cert.Reference14Ideal.Read in
set_option maxHeartbeats 2000000 in
theorem final4 (c : Dev nD) : (dats m 0 c).arrAt 4 cfg0.N = posIm m c := by
  refine (dats m 0 c).arrAt_eq_of_covers 4 _ (by decide +kernel) fun t hf y => ?_
  blk_simp
  rw [after0_4]
  frame_out
  idx_vars y
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, posIm, val_main_v103, val_main_v58_apply, val_main_v57_apply, val_main_v56_apply, val_main_v55, val_main_v54, val_main_v53, val_main_v52_apply, val_main_v51, val_main_v42_apply, val_main_v41_apply, val_main_v40, val_main_v39, val_main_v38, val_main_v37_apply, val_main_v36, val_main_v35, val_main_v34_apply, val_main_v33_apply, val_main_v32, val_main_c_apply, val_main_v31_apply, val_main_v4, val_main_v3_apply, val_main_v2, val_main_v1, val_main_v0]
  blk_point [iblk, V, idx t]

/-- Real parts of the inverse powers, in the reference's own stages. -/
abbrev negRe (c : Dev nD) : S128x4096.Idx → EReal :=
  Cert.Reference14Ideal.Read.val_main_v104 (F := Ideal) (m ((c : Thread nD τ).loc main_arg0)) (m ((c : Thread nD τ).loc main_arg1)) (m ((c : Thread nD τ).loc main_arg2))

open Cert.Reference14Ideal.Read in
set_option maxHeartbeats 2000000 in
theorem final5 (c : Dev nD) : (dats m 0 c).arrAt 5 cfg0.N = negRe m c := by
  refine (dats m 0 c).arrAt_eq_of_covers 5 _ (by decide +kernel) fun t hf y => ?_
  blk_simp
  rw [after0_5]
  frame_out
  idx_vars y
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, negRe, val_main_v104, val_main_v68_apply, val_main_v67_apply, val_main_v66_apply, val_main_v65, val_main_v64, val_main_v63, val_main_v62_apply, val_main_v61, val_main_v60_apply, val_main_v59, val_main_cst_1, val_main_v42_apply, val_main_v41_apply, val_main_v40, val_main_v39, val_main_v38, val_main_v37_apply, val_main_v36, val_main_v35, val_main_v34_apply, val_main_v33_apply, val_main_v32, val_main_c_apply, val_main_v31_apply, val_main_v4, val_main_v3_apply, val_main_v2, val_main_v1, val_main_v0]
  blk_point [iblk, V, idx t]

/-- Imaginary parts of the inverse powers, in the reference's own stages. -/
abbrev negIm (c : Dev nD) : S128x4096.Idx → EReal :=
  Cert.Reference14Ideal.Read.val_main_v105 (F := Ideal) (m ((c : Thread nD τ).loc main_arg0)) (m ((c : Thread nD τ).loc main_arg1)) (m ((c : Thread nD τ).loc main_arg2))

open Cert.Reference14Ideal.Read in
set_option maxHeartbeats 2000000 in
theorem final6 (c : Dev nD) : (dats m 0 c).arrAt 6 cfg0.N = negIm m c := by
  refine (dats m 0 c).arrAt_eq_of_covers 6 _ (by decide +kernel) fun t hf y => ?_
  blk_simp
  rw [after0_6]
  frame_out
  idx_vars y
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, negIm, val_main_v105, val_main_v79_apply, val_main_v78_apply, val_main_v77_apply, val_main_v76_apply, val_main_v75, val_main_v74, val_main_v73, val_main_v72_apply, val_main_v71, val_main_v70_apply, val_main_v69, val_main_cst_2, val_main_v42_apply, val_main_v41_apply, val_main_v40, val_main_v39, val_main_v38, val_main_v37_apply, val_main_v36, val_main_v35, val_main_v34_apply, val_main_v33_apply, val_main_v32, val_main_c_apply, val_main_v31_apply, val_main_v4, val_main_v3_apply, val_main_v2, val_main_v1, val_main_v0]
  simp only [zeroSub]
  blk_point [iblk, V, idx t]

/-- Real part of the input scale, in the reference's own stages. -/
abbrev zRe (c : Dev nD) : S1x4096.Idx → EReal :=
  Cert.Reference14Ideal.Read.val_main_v106 (F := Ideal) (m ((c : Thread nD τ).loc main_arg0)) (m ((c : Thread nD τ).loc main_arg1)) (m ((c : Thread nD τ).loc main_arg2))

open Cert.Reference14Ideal.Read in
set_option maxHeartbeats 2000000 in
theorem final7 (c : Dev nD) : (dats m 0 c).arrAt 7 cfg0.N = zRe m c := by
  refine (dats m 0 c).arrAt_eq_of_covers 7 _ (by decide +kernel) fun t hf y => ?_
  blk_simp
  rw [after0_7]
  frame_out
  idx_vars y
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, zRe, val_main_v106, val_main_v24_apply, val_main_v23_apply, val_main_v22_apply, val_main_v21_apply, val_main_v20_apply, val_main_v19, val_main_cst, val_main_v18_apply, val_main_v17_apply, val_main_v16_apply, val_main_v15_apply, val_main_v14_apply, val_main_v13_apply, val_main_v12, val_main_v11_apply, val_main_v10_apply, val_main_v9_apply, val_main_v8, val_main_v7_apply, val_main_v6_apply, val_main_v5, val_main_v4, val_main_v3_apply, val_main_v2, val_main_v1, val_main_v0]
  blk_point [iblk, V, idx t]

/-- Imaginary part of the input scale, in the reference's own stages. -/
abbrev zIm (c : Dev nD) : S1x4096.Idx → EReal :=
  Cert.Reference14Ideal.Read.val_main_v107 (F := Ideal) (m ((c : Thread nD τ).loc main_arg0)) (m ((c : Thread nD τ).loc main_arg1)) (m ((c : Thread nD τ).loc main_arg2))

open Cert.Reference14Ideal.Read in
set_option maxHeartbeats 2000000 in
theorem final8 (c : Dev nD) : (dats m 0 c).arrAt 8 cfg0.N = zIm m c := by
  refine (dats m 0 c).arrAt_eq_of_covers 8 _ (by decide +kernel) fun t hf y => ?_
  blk_simp
  rw [after0_8]
  frame_out
  idx_vars y
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, zIm, val_main_v107, val_main_v30_apply, val_main_v29_apply, val_main_v28_apply, val_main_v27_apply, val_main_v26, val_main_cst_0, val_main_v25_apply, val_main_v18_apply, val_main_v17_apply, val_main_v16_apply, val_main_v15_apply, val_main_v14_apply, val_main_v13_apply, val_main_v12, val_main_v11_apply, val_main_v10_apply, val_main_v9_apply, val_main_v8, val_main_v7_apply, val_main_v6_apply, val_main_v5, val_main_v4, val_main_v3_apply, val_main_v2, val_main_v1, val_main_v0]
  blk_point [iblk, V, idx t]

/-- Real part of the last power, in the reference's own stages. -/
abbrev lastRe (c : Dev nD) : S1x4096.Idx → EReal :=
  Cert.Reference14Ideal.Read.val_main_v108 (F := Ideal) (m ((c : Thread nD τ).loc main_arg0)) (m ((c : Thread nD τ).loc main_arg1)) (m ((c : Thread nD τ).loc main_arg2))

open Cert.Reference14Ideal.Read in
set_option maxHeartbeats 2000000 in
theorem final9 (c : Dev nD) : (dats m 0 c).arrAt 9 cfg0.N = lastRe m c := by
  refine (dats m 0 c).arrAt_eq_of_covers 9 _ (by decide +kernel) fun t hf y => ?_
  blk_simp
  rw [after0_9]
  frame_out
  idx_vars y
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, lastRe, val_main_v108, val_main_v90_apply, val_main_v89_apply, val_main_v88_apply, val_main_v87, val_main_cst_4, val_main_v86_apply, val_main_v85, val_main_v84_apply, val_main_v83_apply, val_main_v82, val_main_cst_3, val_main_v81_apply, val_main_v80, val_main_v4, val_main_v3_apply, val_main_v2, val_main_v1, val_main_v0]
  blk_point [iblk, V, idx t]

/-- Imaginary part of the last power, in the reference's own stages. -/
abbrev lastIm (c : Dev nD) : S1x4096.Idx → EReal :=
  Cert.Reference14Ideal.Read.val_main_v109 (F := Ideal) (m ((c : Thread nD τ).loc main_arg0)) (m ((c : Thread nD τ).loc main_arg1)) (m ((c : Thread nD τ).loc main_arg2))

open Cert.Reference14Ideal.Read in
set_option maxHeartbeats 2000000 in
theorem final10 (c : Dev nD) : (dats m 0 c).arrAt 10 cfg0.N = lastIm m c := by
  refine (dats m 0 c).arrAt_eq_of_covers 10 _ (by decide +kernel) fun t hf y => ?_
  blk_simp
  rw [after0_10]
  frame_out
  idx_vars y
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, lastIm, val_main_v109, val_main_v101_apply, val_main_v100_apply, val_main_v99_apply, val_main_v98, val_main_cst_6, val_main_v97_apply, val_main_v96, val_main_v95_apply, val_main_v94_apply, val_main_v93, val_main_cst_5, val_main_v92_apply, val_main_v91, val_main_v4, val_main_v3_apply, val_main_v2, val_main_v1, val_main_v0]
  blk_point [iblk, V, idx t]

end Cert.Kernel14Ideal.Tables

end
-- ==== Proof.Layer.RestClaims.lean ====
/-
  The claims about the mixer's projections, the merge of its branches and the conditioning vector, each from the call's run
  and the arrays it is shown to leave.
-/
module

public import proofs.«01_k».proof.Defs
public import proofs.«01_k».proof.Proof.Layer.ProjRkv
public import proofs.«01_k».proof.Proof.Layer.ProjU
public import proofs.«01_k».proof.Proof.Layer.ProjG
public import proofs.«01_k».proof.Proof.Layer.Merge
public import proofs.«01_k».proof.Proof.Layer.WOut
public import proofs.«01_k».proof.Proof.Layer.Mid
public import proofs.«01_k».proof.Proof.Layer.Ada
public import proofs.«01_k».proof.Proof.Layer.Head
public import proofs.«01_k».proof.Proof.Layer.Tables
public import proofs.«01_k».proof.Proof.Gen.Kernel5.Frame
public import proofs.«01_k».proof.Proof.Gen.Kernel6.Frame
public import proofs.«01_k».proof.Proof.Gen.Kernel7.Frame
public import proofs.«01_k».proof.Proof.Gen.Kernel8.Frame
public import proofs.«01_k».proof.Proof.Gen.Kernel9.Frame
public import proofs.«01_k».proof.Proof.Gen.Kernel10.Frame
public import proofs.«01_k».proof.Proof.Gen.Kernel11.Frame
public import proofs.«01_k».proof.Proof.Gen.Kernel12.Frame
public import proofs.«01_k».proof.Proof.Gen.Kernel14.Frame
public import Idealize.ShloMosaic.Lib.Claim

@[expose] public section

noncomputable section

namespace Cert.Proof.Layer

open Idealize.ShloMosaic Idealize.SL.Sem

theorem ref5_ends : Cert.quiescent_Reference5Ideal := fun m ρ _ =>
  (θ_run _ _ _).mono (fun r h => ⟨fun c => (h c).2, sem_eq_zero_of_no_sems (by decide) r.2⟩) (Cert.Reference5Ideal.Value.run m ρ)

theorem projRkv_eq : Cert.algebraic_Kernel5Ideal_Reference5Ideal := fun m ρ m' ρ' _ hag =>
  ⟨fun c => Cert.Kernel5Ideal.ProjRkv.out m c,
    (θ_run _ _ _).mono (fun _ h c => ⟨(h c).1.trans (Cert.Kernel5Ideal.ProjRkv.final2 m c), (h c).2⟩)
      (Cert.Kernel5Ideal.Value.run_blocks m ρ),
    (θ_run _ _ _).mono (fun _ h c => ⟨(h c).1.trans (by rw [(hag c).1, (hag c).2]; exact Cert.Reference5Ideal.Read.val_main_v3_eq _ _), (h c).2⟩)
      (Cert.Reference5Ideal.Value.run m' ρ')⟩

theorem ref6_ends : Cert.quiescent_Reference6Ideal := fun m ρ _ =>
  (θ_run _ _ _).mono (fun r h => ⟨fun c => (h c).2, sem_eq_zero_of_no_sems (by decide) r.2⟩) (Cert.Reference6Ideal.Value.run m ρ)

theorem projU_eq : Cert.algebraic_Kernel6Ideal_Reference6Ideal := fun m ρ m' ρ' _ hag =>
  ⟨fun c => Cert.Kernel6Ideal.ProjU.out m c,
    (θ_run _ _ _).mono (fun _ h c => ⟨(h c).1.trans (Cert.Kernel6Ideal.ProjU.final2 m c), (h c).2⟩)
      (Cert.Kernel6Ideal.Value.run_blocks m ρ),
    (θ_run _ _ _).mono (fun _ h c => ⟨(h c).1.trans (by rw [(hag c).1, (hag c).2]; exact Cert.Reference6Ideal.Read.val_main_v3_eq _ _), (h c).2⟩)
      (Cert.Reference6Ideal.Value.run m' ρ')⟩

theorem ref7_ends : Cert.quiescent_Reference7Ideal := fun m ρ _ =>
  (θ_run _ _ _).mono (fun r h => ⟨fun c => (h c).2.2, sem_eq_zero_of_no_sems (by decide) r.2⟩) (Cert.Reference7Ideal.Value.run m ρ)

theorem projG_eq : Cert.algebraic_Kernel7Ideal_Reference7Ideal := fun m ρ m' ρ' _ hag =>
  ⟨fun c => Cert.Kernel7Ideal.ProjG.gates m c, fun c => Cert.Kernel7Ideal.ProjG.mod m c,
    (θ_run _ _ _).mono (fun _ h c => ⟨(h c).1.trans (Cert.Kernel7Ideal.ProjG.final5 m c), (h c).2.1.trans (Cert.Kernel7Ideal.ProjG.final6 m c), (h c).2.2⟩)
      (Cert.Kernel7Ideal.Value.run_blocks m ρ),
    (θ_run _ _ _).mono (fun _ h c => ⟨(h c).1.trans (by rw [(hag c).1, (hag c).2.1]; exact Cert.Reference7Ideal.Read.val_main_v10_eq _ _),
        (h c).2.1.trans (by rw [(hag c).2.2.1, (hag c).2.2.2.1, (hag c).2.2.2.2]; exact Cert.Reference7Ideal.Read.val_main_v11_eq _ _ _), (h c).2.2⟩)
      (Cert.Reference7Ideal.Value.run m' ρ')⟩

theorem ref8_ends : Cert.quiescent_Reference8Ideal := fun m ρ _ =>
  (θ_run _ _ _).mono (fun r h => ⟨fun c => (h c).2, sem_eq_zero_of_no_sems (by decide) r.2⟩) (Cert.Reference8Ideal.Value.run m ρ)

theorem merge_eq : Cert.algebraic_Kernel8Ideal_Reference8Ideal := fun m ρ m' ρ' _ hag =>
  ⟨fun c => Cert.Kernel8Ideal.Merge.out m c,
    (θ_run _ _ _).mono (fun _ h c => ⟨(h c).1.trans (Cert.Kernel8Ideal.Merge.final6 m c), (h c).2⟩)
      (Cert.Kernel8Ideal.Value.run_blocks m ρ),
    (θ_run _ _ _).mono (fun _ h c => ⟨(h c).1.trans (by rw [(hag c).1, (hag c).2.1, (hag c).2.2.1, (hag c).2.2.2.1, (hag c).2.2.2.2]; exact Cert.Reference8Ideal.Read.val_main_v24_eq _ _ _ _ _), (h c).2⟩)
      (Cert.Reference8Ideal.Value.run m' ρ')⟩

theorem ref9_ends : Cert.quiescent_Reference9Ideal := fun m ρ _ =>
  (θ_run _ _ _).mono (fun r h => ⟨fun c => (h c).2, sem_eq_zero_of_no_sems (by decide) r.2⟩) (Cert.Reference9Ideal.Value.run m ρ)

theorem wOut_eq : Cert.algebraic_Kernel9Ideal_Reference9Ideal := fun m ρ m' ρ' _ hag =>
  ⟨fun c => Cert.Kernel9Ideal.WOut.out m c,
    (θ_run _ _ _).mono (fun _ h c => ⟨(h c).1.trans (Cert.Kernel9Ideal.WOut.final2 m c), (h c).2⟩)
      (Cert.Kernel9Ideal.Value.run_blocks m ρ),
    (θ_run _ _ _).mono (fun _ h c => ⟨(h c).1.trans (by rw [(hag c).1, (hag c).2]; exact Cert.Reference9Ideal.Read.val_main_v3_eq _ _), (h c).2⟩)
      (Cert.Reference9Ideal.Value.run m' ρ')⟩

theorem ref10_ends : Cert.quiescent_Reference10Ideal := fun m ρ _ =>
  (θ_run _ _ _).mono (fun r h => ⟨fun c => (h c).2.2, sem_eq_zero_of_no_sems (by decide) r.2⟩) (Cert.Reference10Ideal.Value.run m ρ)

theorem mid_eq : Cert.algebraic_Kernel10Ideal_Reference10Ideal := fun m ρ m' ρ' _ hag =>
  ⟨fun c => Cert.Kernel10Ideal.Mid.resid m c, fun c => Cert.Kernel10Ideal.Mid.normed m c,
    (θ_run _ _ _).mono (fun _ h c => ⟨(h c).1.trans (Cert.Kernel10Ideal.Mid.final7 m c), (h c).2.1.trans (Cert.Kernel10Ideal.Mid.final8 m c), (h c).2.2⟩)
      (Cert.Kernel10Ideal.Value.run_blocks m ρ),
    (θ_run _ _ _).mono (fun _ h c => ⟨(h c).1.trans (by rw [(hag c).1, (hag c).2.1, (hag c).2.2.1, (hag c).2.2.2.2.1]; exact Cert.Reference10Ideal.Read.val_main_v23_eq _ _ _ _),
        (h c).2.1.trans (by rw [Cert.Reference10Ideal.Read.val_main_v44_eq m' c, (hag c).1, (hag c).2.1, (hag c).2.2.1, (hag c).2.2.2.1, (hag c).2.2.2.2.1, (hag c).2.2.2.2.2]), (h c).2.2⟩)
      (Cert.Reference10Ideal.Value.run m' ρ')⟩

theorem ref11_ends : Cert.quiescent_Reference11Ideal := fun m ρ _ =>
  (θ_run _ _ _).mono (fun r h => ⟨fun c => (h c).2.2, sem_eq_zero_of_no_sems (by decide) r.2⟩) (Cert.Reference11Ideal.Value.run m ρ)

theorem ada_eq : Cert.algebraic_Kernel11Ideal_Reference11Ideal := fun m ρ m' ρ' _ hag =>
  ⟨fun c => Cert.Kernel11Ideal.Ada.mod m c, fun c => Cert.Kernel11Ideal.Ada.cs m c,
    (θ_run _ _ _).mono (fun _ h c => ⟨(h c).1.trans (Cert.Kernel11Ideal.Ada.final3 m c), (h c).2.1.trans (Cert.Kernel11Ideal.Ada.final4 m c), (h c).2.2⟩)
      (Cert.Kernel11Ideal.Value.run_blocks m ρ),
    (θ_run _ _ _).mono (fun _ h c => ⟨(h c).1.trans (by rw [(hag c).1, (hag c).2.1, (hag c).2.2]; exact Cert.Reference11Ideal.Read.val_main_v6_eq _ _ _),
        (h c).2.1.trans (by rw [(hag c).1]; exact Cert.Reference11Ideal.Read.val_main_v7_eq _), (h c).2.2⟩)
      (Cert.Reference11Ideal.Value.run m' ρ')⟩

theorem ref12_ends : Cert.quiescent_Reference12Ideal := fun m ρ _ =>
  (θ_run _ _ _).mono (fun r h => ⟨fun c => (h c).2.2.2.2, sem_eq_zero_of_no_sems (by decide) r.2⟩) (Cert.Reference12Ideal.Value.run m ρ)

theorem head_eq : Cert.algebraic_Kernel12Ideal_Reference12Ideal := fun m ρ m' ρ' _ hag =>
  ⟨fun c => Cert.Kernel12Ideal.Head.xm m c, fun c => Cert.Kernel12Ideal.Head.decay m c, fun c => Cert.Kernel12Ideal.Head.rate m c, fun c => Cert.Kernel12Ideal.Head.gate m c,
    (θ_run _ _ _).mono (fun _ h c => ⟨(h c).1, (h c).2.1, (h c).2.2.1, (h c).2.2.2.1, (h c).2.2.2.2⟩)
      (Cert.Kernel12Ideal.Head.ends m ρ),
    (θ_run _ _ _).mono (fun _ h c => ⟨(h c).1.trans (by rw [(hag c).1, (hag c).2.1, (hag c).2.2.1]; exact Cert.Reference12Ideal.Read.val_main_v70_eq _ _ _),
        (h c).2.1.trans (by rw [Cert.Reference12Ideal.Read.val_main_v49_eq m' c, (hag c).1, (hag c).2.1, (hag c).2.2.1, (hag c).2.2.2.1, (hag c).2.2.2.2.1, (hag c).2.2.2.2.2.1, (hag c).2.2.2.2.2.2.1]),
        (h c).2.2.1.trans (by rw [Cert.Reference12Ideal.Read.val_main_v61_eq m' c, (hag c).1, (hag c).2.1, (hag c).2.2.1, (hag c).2.2.2.1, (hag c).2.2.2.2.1, (hag c).2.2.2.2.2.2.2.1, (hag c).2.2.2.2.2.2.2.2.1]),
        (h c).2.2.2.1.trans (by rw [Cert.Reference12Ideal.Read.val_main_v69_eq m' c, (hag c).1, (hag c).2.1, (hag c).2.2.1, (hag c).2.2.2.1, (hag c).2.2.2.2.1, (hag c).2.2.2.2.2.2.2.2.2]), (h c).2.2.2.2⟩)
      (Cert.Reference12Ideal.Value.run m' ρ')⟩

theorem ref14_ends : Cert.quiescent_Reference14Ideal := fun m ρ _ =>
  (θ_run _ _ _).mono (fun r h => ⟨fun c => (h c).2.2.2.2.2.2.2.2, sem_eq_zero_of_no_sems (by decide) r.2⟩) (Cert.Reference14Ideal.Value.run m ρ)

theorem tables_eq : Cert.algebraic_Kernel14Ideal_Reference14Ideal := fun m ρ m' ρ' _ hag =>
  ⟨fun c => Cert.Kernel14Ideal.Tables.posRe m c, fun c => Cert.Kernel14Ideal.Tables.posIm m c, fun c => Cert.Kernel14Ideal.Tables.negRe m c, fun c => Cert.Kernel14Ideal.Tables.negIm m c, fun c => Cert.Kernel14Ideal.Tables.zRe m c, fun c => Cert.Kernel14Ideal.Tables.zIm m c, fun c => Cert.Kernel14Ideal.Tables.lastRe m c, fun c => Cert.Kernel14Ideal.Tables.lastIm m c,
    (θ_run _ _ _).mono (fun _ h c => ⟨(h c).1.trans (Cert.Kernel14Ideal.Tables.final3 m c), (h c).2.1.trans (Cert.Kernel14Ideal.Tables.final4 m c), (h c).2.2.1.trans (Cert.Kernel14Ideal.Tables.final5 m c), (h c).2.2.2.1.trans (Cert.Kernel14Ideal.Tables.final6 m c), (h c).2.2.2.2.1.trans (Cert.Kernel14Ideal.Tables.final7 m c), (h c).2.2.2.2.2.1.trans (Cert.Kernel14Ideal.Tables.final8 m c), (h c).2.2.2.2.2.2.1.trans (Cert.Kernel14Ideal.Tables.final9 m c), (h c).2.2.2.2.2.2.2.1.trans (Cert.Kernel14Ideal.Tables.final10 m c), (h c).2.2.2.2.2.2.2.2⟩)
      (Cert.Kernel14Ideal.Value.run_blocks m ρ),
    (θ_run _ _ _).mono (fun _ h c => ⟨(h c).1.trans (by rw [(hag c).1, (hag c).2.1, (hag c).2.2]; exact Cert.Reference14Ideal.Read.val_main_v102_eq _ _ _),
        (h c).2.1.trans (by rw [(hag c).1, (hag c).2.1, (hag c).2.2]; exact Cert.Reference14Ideal.Read.val_main_v103_eq _ _ _),
        (h c).2.2.1.trans (by rw [(hag c).1, (hag c).2.1, (hag c).2.2]; exact Cert.Reference14Ideal.Read.val_main_v104_eq _ _ _),
        (h c).2.2.2.1.trans (by rw [(hag c).1, (hag c).2.1, (hag c).2.2]; exact Cert.Reference14Ideal.Read.val_main_v105_eq _ _ _),
        (h c).2.2.2.2.1.trans (by rw [(hag c).1, (hag c).2.1, (hag c).2.2]; exact Cert.Reference14Ideal.Read.val_main_v106_eq _ _ _),
        (h c).2.2.2.2.2.1.trans (by rw [(hag c).1, (hag c).2.1, (hag c).2.2]; exact Cert.Reference14Ideal.Read.val_main_v107_eq _ _ _),
        (h c).2.2.2.2.2.2.1.trans (by rw [(hag c).1, (hag c).2.1, (hag c).2.2]; exact Cert.Reference14Ideal.Read.val_main_v108_eq _ _ _),
        (h c).2.2.2.2.2.2.2.1.trans (by rw [(hag c).1, (hag c).2.1, (hag c).2.2]; exact Cert.Reference14Ideal.Read.val_main_v109_eq _ _ _), (h c).2.2.2.2.2.2.2.2⟩)
      (Cert.Reference14Ideal.Value.run m' ρ')⟩

end Cert.Proof.Layer

end
-- ==== Proof.S5.Tables.lean ====
module

public import proofs.«01_k».proof.Proof.Gen.Kernel13Ideal.Launch
public import proofs.«01_k».proof.Proof.Gen.Kernel13Ideal.Skeleton
public import proofs.«01_k».proof.Proof.Gen.Kernel13Ideal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Pipeline.RegionsLoop
public import Idealize.ShloMosaic.Lib.Pipeline.FrameSuffix

@[expose] public section

set_option maxRecDepth 16384

noncomputable section

namespace Cert.Kernel13Ideal.S5

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel13Ideal.Gen

variable {F : FTy → Type} [FloatOps F]

/-- The separation model every triple of these modules is stated in. -/
abbrev MM (F : FTy → Type) [FloatOps F] := MT nD τ sig Unit (Elt F) ℕ (UR sig nD τ) ℕ
variable (V : (c : Dev nD) → (b : Ref sig .tc) → Buf (Elt F) ((c : Thread nD τ).loc b))

/-- The block window `w` of the first call shows at point `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S1x4096 := Rect.unit (s := S1x4096) ![0, 0] S1x4096.size inb_S1x4096_S1x4096_0_0
abbrev r0_1 : Rect S128x4096 := Rect.unit (s := S128x4096) ![0, 0] S128x4096.size inb_S128x4096_S128x4096_0_0

def k0_pay24 (x0 : Vec F S1x4096 .f32) (x1 : Vec F S1x4096 .f32) (x2 : Vec F S1x4096 .f32) : FVec F S1x4096 .f32 :=
  k0_pay9 (View.ld x0 r0_0) -- `v1`
def k0_pay25 (x0 : Vec F S1x4096 .f32) (x1 : Vec F S1x4096 .f32) (x2 : Vec F S1x4096 .f32) : FVec F S1x4096 .f32 :=
  k0_pay10 (View.ld x1 r0_0) -- `v3`
def k0_pay26 (x0 : Vec F S1x4096 .f32) (x1 : Vec F S1x4096 .f32) (x2 : Vec F S1x4096 .f32) : FVec F S1x4096 .f32 :=
  k0_pay11 (View.ld x2 r0_0) -- `v6`
def k0_pay27 (x0 : Vec F S1x4096 .f32) (x1 : Vec F S1x4096 .f32) (x2 : Vec F S1x4096 .f32) : FVec F S1x4096 .f32 :=
  k0_pay22 (View.ld x0 r0_0) (View.ld x2 r0_0) -- `v35`

def out0_3 (x0 : Vec F S1x4096 .f32) (x1 : Vec F S1x4096 .f32) (x2 : Vec F S1x4096 .f32) : Vec F S128x4096 .f32 :=
  View.canon [⟨r0_1, k0_pay17 (View.ld x0 r0_0) (View.ld x1 r0_0) (View.ld x2 r0_0)⟩]

theorem cover0_3 (p0 : Vec F S128x4096 .f32) (y : S128x4096.Idx) :
    ∃ pc ∈ ([⟨r0_1, p0⟩] : List (View.Piece (Elt F) S128x4096 .f32)), y ∈ pc.1.set :=
  View.cover_of_tiled [⟨r0_1, p0⟩] S128x4096.size (by rfl) y

def out0_4 (x0 : Vec F S1x4096 .f32) (x1 : Vec F S1x4096 .f32) (x2 : Vec F S1x4096 .f32) : Vec F S128x4096 .f32 :=
  View.canon [⟨r0_1, k0_pay18 (View.ld x0 r0_0) (View.ld x1 r0_0) (View.ld x2 r0_0)⟩]

theorem cover0_4 (p0 : Vec F S128x4096 .f32) (y : S128x4096.Idx) :
    ∃ pc ∈ ([⟨r0_1, p0⟩] : List (View.Piece (Elt F) S128x4096 .f32)), y ∈ pc.1.set :=
  View.cover_of_tiled [⟨r0_1, p0⟩] S128x4096.size (by rfl) y

def out0_5 (x0 : Vec F S1x4096 .f32) (x1 : Vec F S1x4096 .f32) (x2 : Vec F S1x4096 .f32) : Vec F S128x4096 .f32 :=
  View.canon [⟨r0_1, k0_pay20 (View.ld x0 r0_0) (View.ld x1 r0_0) (View.ld x2 r0_0)⟩]

theorem cover0_5 (p0 : Vec F S128x4096 .f32) (y : S128x4096.Idx) :
    ∃ pc ∈ ([⟨r0_1, p0⟩] : List (View.Piece (Elt F) S128x4096 .f32)), y ∈ pc.1.set :=
  View.cover_of_tiled [⟨r0_1, p0⟩] S128x4096.size (by rfl) y

def out0_6 (x0 : Vec F S1x4096 .f32) (x1 : Vec F S1x4096 .f32) (x2 : Vec F S1x4096 .f32) : Vec F S128x4096 .f32 :=
  View.canon [⟨r0_1, k0_pay21 (View.ld x0 r0_0) (View.ld x1 r0_0) (View.ld x2 r0_0)⟩]

theorem cover0_6 (p0 : Vec F S128x4096 .f32) (y : S128x4096.Idx) :
    ∃ pc ∈ ([⟨r0_1, p0⟩] : List (View.Piece (Elt F) S128x4096 .f32)), y ∈ pc.1.set :=
  View.cover_of_tiled [⟨r0_1, p0⟩] S128x4096.size (by rfl) y

def out0_7 (x0 : Vec F S1x4096 .f32) (x1 : Vec F S1x4096 .f32) (x2 : Vec F S1x4096 .f32) : Vec F S1x4096 .f32 :=
  View.canon [⟨r0_0, k0_pay7 (k0_pay24 x0 x1 x2) (k0_pay25 x0 x1 x2) (k0_pay26 x0 x1 x2)⟩]

theorem cover0_7 (p0 : Vec F S1x4096 .f32) (y : S1x4096.Idx) :
    ∃ pc ∈ ([⟨r0_0, p0⟩] : List (View.Piece (Elt F) S1x4096 .f32)), y ∈ pc.1.set :=
  View.cover_of_tiled [⟨r0_0, p0⟩] S1x4096.size (by rfl) y

def out0_8 (x0 : Vec F S1x4096 .f32) (x1 : Vec F S1x4096 .f32) (x2 : Vec F S1x4096 .f32) : Vec F S1x4096 .f32 :=
  View.canon [⟨r0_0, k0_pay8 (k0_pay24 x0 x1 x2) (k0_pay25 x0 x1 x2) (k0_pay26 x0 x1 x2)⟩]

theorem cover0_8 (p0 : Vec F S1x4096 .f32) (y : S1x4096.Idx) :
    ∃ pc ∈ ([⟨r0_0, p0⟩] : List (View.Piece (Elt F) S1x4096 .f32)), y ∈ pc.1.set :=
  View.cover_of_tiled [⟨r0_0, p0⟩] S1x4096.size (by rfl) y

def out0_9 (x0 : Vec F S1x4096 .f32) (x1 : Vec F S1x4096 .f32) (x2 : Vec F S1x4096 .f32) : Vec F S1x4096 .f32 :=
  View.canon [⟨r0_0, k0_pay1 (k0_pay27 x0 x1 x2) (k0_pay23 (View.ld x1 r0_0) (View.ld x2 r0_0)) (Scalar.ofBits .f32 0x42820000#32)⟩]

theorem cover0_9 (p0 : Vec F S1x4096 .f32) (y : S1x4096.Idx) :
    ∃ pc ∈ ([⟨r0_0, p0⟩] : List (View.Piece (Elt F) S1x4096 .f32)), y ∈ pc.1.set :=
  View.cover_of_tiled [⟨r0_0, p0⟩] S1x4096.size (by rfl) y

def out0_10 (x0 : Vec F S1x4096 .f32) (x1 : Vec F S1x4096 .f32) (x2 : Vec F S1x4096 .f32) : Vec F S1x4096 .f32 :=
  View.canon [⟨r0_0, k0_pay2 (k0_pay25 x0 x1 x2) (k0_pay26 x0 x1 x2) (k0_pay27 x0 x1 x2)⟩]

theorem cover0_10 (p0 : Vec F S1x4096 .f32) (y : S1x4096.Idx) :
    ∃ pc ∈ ([⟨r0_0, p0⟩] : List (View.Piece (Elt F) S1x4096 .f32)), y ∈ pc.1.set :=
  View.cover_of_tiled [⟨r0_0, p0⟩] S1x4096.size (by rfl) y

set_option maxHeartbeats 1000000 in
theorem sound_kernel0 (c : Dev nD) (E : Set ℕ) (arg0 : Memref sig .tc .vmem S1x4096 .f32) (harg0 : arg0.IsWhole) (arg1 : Memref sig .tc .vmem S1x4096 .f32) (harg1 : arg1.IsWhole) (arg2 : Memref sig .tc .vmem S1x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S128x4096 .f32) (harg6 : arg6.IsWhole) (arg7 : Memref sig .tc .vmem S1x4096 .f32) (harg7 : arg7.IsWhole) (arg8 : Memref sig .tc .vmem S1x4096 .f32) (harg8 : arg8.IsWhole) (arg9 : Memref sig .tc .vmem S1x4096 .f32) (harg9 : arg9.IsWhole) (arg10 : Memref sig .tc .vmem S1x4096 .f32) (harg10 : arg10.IsWhole)
    (x0 : Vec F S1x4096 .f32) (x1 : Vec F S1x4096 .f32) (x2 : Vec F S1x4096 .f32) (K : PUnit → sProp (MM F)) :
    iprop(owns (c : Thread nD τ) arg0 fullShare x0 ∗ owns (c : Thread nD τ) arg1 fullShare x1 ∗ owns (c : Thread nD τ) arg2 fullShare x2 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out0_3 x0 x1 x2) ∗ owns (c : Thread nD τ) arg4 fullShare (out0_4 x0 x1 x2) ∗ owns (c : Thread nD τ) arg5 fullShare (out0_5 x0 x1 x2) ∗ owns (c : Thread nD τ) arg6 fullShare (out0_6 x0 x1 x2) ∗ owns (c : Thread nD τ) arg7 fullShare (out0_7 x0 x1 x2) ∗ owns (c : Thread nD τ) arg8 fullShare (out0_8 x0 x1 x2) ∗ owns (c : Thread nD τ) arg9 fullShare (out0_9 x0 x1 x2) ∗ owns (c : Thread nD τ) arg10 fullShare (out0_10 x0 x1 x2)) -∗ K ⟨⟩))
      ⊢ wp frame (wpE (defs₀ (F := F)) Variants.none c none) E (cc0_s5_tables arg0 harg0 arg1 harg1 arg2 harg2 arg3 harg3 arg4 harg4 arg5 harg5 arg6 harg6 arg7 harg7 arg8 harg8 arg9 harg9 arg10 harg10) K := by
  simp only [cc0_s5_tables_eq_skeleton]; unfold cc0_s5_tables_skel
  simp only [k0_part1_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (View.read_writes_eq_canon _ _ _ (cover0_3 _)).trans ?_
    rfl
  isplitl [H4]
  · iexists _; isplitr
    swap; · iexact H4
    ipureintro
    refine (View.read_writes_eq_canon _ _ _ (cover0_4 _)).trans ?_
    rfl
  isplitl [H5]
  · iexists _; isplitr
    swap; · iexact H5
    ipureintro
    refine (View.read_writes_eq_canon _ _ _ (cover0_5 _)).trans ?_
    rfl
  isplitl [H6]
  · iexists _; isplitr
    swap; · iexact H6
    ipureintro
    refine (View.read_writes_eq_canon _ _ _ (cover0_6 _)).trans ?_
    rfl
  isplitl [H7]
  · iexists _; isplitr
    swap; · iexact H7
    ipureintro
    refine (View.read_writes_eq_canon _ _ _ (cover0_7 _)).trans ?_
    rfl
  isplitl [H8]
  · iexists _; isplitr
    swap; · iexact H8
    ipureintro
    refine (View.read_writes_eq_canon _ _ _ (cover0_8 _)).trans ?_
    rfl
  isplitl [H9]
  · iexists _; isplitr
    swap; · iexact H9
    ipureintro
    refine (View.read_writes_eq_canon _ _ _ (cover0_9 _)).trans ?_
    rfl
  iexists _; isplitr
  swap; · iexact H10
  ipureintro
  refine (View.read_writes_eq_canon _ _ _ (cover0_10 _)).trans ?_
  rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
    | ⟨6, _⟩ => out0_6 (iblk0 V c 0 t) (iblk0 V c 1 t) (iblk0 V c 2 t)
    | ⟨7, _⟩ => out0_7 (iblk0 V c 0 t) (iblk0 V c 1 t) (iblk0 V c 2 t)
    | ⟨8, _⟩ => out0_8 (iblk0 V c 0 t) (iblk0 V c 1 t) (iblk0 V c 2 t)
    | ⟨9, _⟩ => out0_9 (iblk0 V c 0 t) (iblk0 V c 1 t) (iblk0 V c 2 t)
    | ⟨10, _⟩ => out0_10 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]
theorem after0_6 (c : Dev nD) (t : Fin cfg0.N) : (dat0 V c).after 6 t = out0_6 (iblk0 V c 0 t) (iblk0 V c 1 t) (iblk0 V c 2 t) := by dsimp only [dat0]
theorem after0_7 (c : Dev nD) (t : Fin cfg0.N) : (dat0 V c).after 7 t = out0_7 (iblk0 V c 0 t) (iblk0 V c 1 t) (iblk0 V c 2 t) := by dsimp only [dat0]
theorem after0_8 (c : Dev nD) (t : Fin cfg0.N) : (dat0 V c).after 8 t = out0_8 (iblk0 V c 0 t) (iblk0 V c 1 t) (iblk0 V c 2 t) := by dsimp only [dat0]
theorem after0_9 (c : Dev nD) (t : Fin cfg0.N) : (dat0 V c).after 9 t = out0_9 (iblk0 V c 0 t) (iblk0 V c 1 t) (iblk0 V c 2 t) := by dsimp only [dat0]
theorem after0_10 (c : Dev nD) (t : Fin cfg0.N) : (dat0 V c).after 10 t = out0_10 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp (MM F) :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d)))

def bodyPost0 (c : Dev nD) (t : Fin cfg0.N) : sProp (MM F) :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel0 c Set.univ _ _ _ _ _ _ _ _ _ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.Kernel13Ideal.S5

end
-- ==== Proof.S5.Runs.lean ====
module

public import proofs.«01_k».proof.Proof.S5.Tables

@[expose] public section

set_option maxRecDepth 16384

noncomputable section

namespace Cert.Kernel13Ideal.S5

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel13Ideal.Gen

variable {F : FTy → Type} [FloatOps F]
variable (V : (c : Dev nD) → (b : Ref sig .tc) → Buf (Elt F) ((c : Thread nD τ).loc b))

/-- The block window `w` of the second call shows at point `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)
theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)
theorem before1_12_of {c : Dev nD} (dat : Dat τ (Elt F) Unit ℕ (UR sig nD τ) ℕ cfg1 c) (hA : dat.A 12 = V c (Pipeline.arrRef spec1 12))
    (hafter : ∀ t, dat.after 12 t = iblk1 V c 12 t) (t : Fin cfg1.N) (d) : dat.before 12 t d = iblk1 V c 12 t :=
  (dat.before_in_eq_fetched 12 rfl (fun _ => rfl) (fun _ _ _ => rfl) (fun t => by rw [hafter]; unfold Dat.blockOf iblk1; rw [hA]; try rfl) t d).trans
    (by unfold Dat.fetched Dat.blockOf iblk1; rw [hA]; try rfl)
theorem before1_13_of {c : Dev nD} (dat : Dat τ (Elt F) Unit ℕ (UR sig nD τ) ℕ cfg1 c) (hA : dat.A 13 = V c (Pipeline.arrRef spec1 13))
    (hafter : ∀ t, dat.after 13 t = iblk1 V c 13 t) (t : Fin cfg1.N) (d) : dat.before 13 t d = iblk1 V c 13 t :=
  (dat.before_in_eq_fetched 13 rfl (fun _ => rfl) (fun _ _ _ => rfl) (fun t => by rw [hafter]; unfold Dat.blockOf iblk1; rw [hA]; try rfl) t d).trans
    (by unfold Dat.fetched Dat.blockOf iblk1; rw [hA]; try rfl)
theorem before1_14_of {c : Dev nD} (dat : Dat τ (Elt F) Unit ℕ (UR sig nD τ) ℕ cfg1 c) (hA : dat.A 14 = V c (Pipeline.arrRef spec1 14))
    (hafter : ∀ t, dat.after 14 t = iblk1 V c 14 t) (t : Fin cfg1.N) (d) : dat.before 14 t d = iblk1 V c 14 t :=
  (dat.before_in_eq_fetched 14 rfl (fun _ => rfl) (fun _ _ _ => rfl) (fun t => by rw [hafter]; unfold Dat.blockOf iblk1; rw [hA]; try rfl) t d).trans
    (by unfold Dat.fetched Dat.blockOf iblk1; rw [hA]; try rfl)
theorem before1_15_of {c : Dev nD} (dat : Dat τ (Elt F) Unit ℕ (UR sig nD τ) ℕ cfg1 c) (hA : dat.A 15 = V c (Pipeline.arrRef spec1 15))
    (hafter : ∀ t, dat.after 15 t = iblk1 V c 15 t) (t : Fin cfg1.N) (d) : dat.before 15 t d = iblk1 V c 15 t :=
  (dat.before_in_eq_fetched 15 rfl (fun _ => rfl) (fun _ _ _ => rfl) (fun t => by rw [hafter]; unfold Dat.blockOf iblk1; rw [hA]; try rfl) t d).trans
    (by unfold Dat.fetched Dat.blockOf iblk1; rw [hA]; try rfl)

/-- The condition of the second call's conditional, at a point. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 16 = 0 :=
  (fun t => by
    have ht : t.val < 16 := Nat.lt_of_lt_of_eq t.isLt N_1
    have e0 : (grid1.coords t 0).val = t.val / 1 % 16 := Pipeline.Grid.coords_val t 0 (by decide) rfl
    simp only [cond1_0, e0]
    word_cmp
   : ∀ t : Fin grid1.N, cond1_0 (grid1.coords t) ↔ t.val % 16 = 0)

abbrev VO1_16 : View sig .tc .vmem S512x1024 .bf16 := (Memref.whole cc1_stg16_0 : Memref sig .tc .vmem S512x1024 .bf16).view
abbrev ms1_0 (t : Fin cfg1.N) : Memref sig .tc .vmem S512x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x4096 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x4096 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x4096 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x4096 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x4096 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x4096 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x4096 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x4096 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S4x256x64 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S4x256x64 .f32 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S4x1024x16 .f32 := win1_11.stage (cfg1.slots t 11)
abbrev hs1_11 (t : Fin cfg1.N) : (ms1_11 t).IsWhole := hstage1_11 ((cfg1.slots t 11).cast nbuf1_11)
abbrev ms1_12 (t : Fin cfg1.N) : Memref sig .tc .vmem S4x1024x16 .f32 := win1_12.stage (cfg1.slots t 12)
abbrev hs1_12 (t : Fin cfg1.N) : (ms1_12 t).IsWhole := hstage1_12 ((cfg1.slots t 12).cast nbuf1_12)
abbrev ms1_13 (t : Fin cfg1.N) : Memref sig .tc .vmem S1x1024 .f32 := win1_13.stage (cfg1.slots t 13)
abbrev hs1_13 (t : Fin cfg1.N) : (ms1_13 t).IsWhole := hstage1_13 ((cfg1.slots t 13).cast nbuf1_13)
abbrev ms1_14 (t : Fin cfg1.N) : Memref sig .tc .vmem S1024x2048 .bf16 := win1_14.stage (cfg1.slots t 14)
abbrev hs1_14 (t : Fin cfg1.N) : (ms1_14 t).IsWhole := hstage1_14 ((cfg1.slots t 14).cast nbuf1_14)
abbrev ms1_15 (t : Fin cfg1.N) : Memref sig .tc .vmem S1x2048 .f32 := win1_15.stage (cfg1.slots t 15)
abbrev hs1_15 (t : Fin cfg1.N) : (ms1_15 t).IsWhole := hstage1_15 ((cfg1.slots t 15).cast nbuf1_15)
abbrev ms1_16 (t : Fin cfg1.N) : Memref sig .tc .vmem S512x1024 .bf16 := win1_16.stage (cfg1.slots t 16)
abbrev hs1_16 (t : Fin cfg1.N) : (ms1_16 t).IsWhole := hstage1_16 ((cfg1.slots t 16).cast nbuf1_16)
abbrev scM1_0 : Memref sig .tc .vmem S4x256x2048 .bf16 := Memref.whole cc1_scratch0
abbrev scM1_1 : Memref sig .tc .vmem S8x4096 .f32 := Memref.whole cc1_scratch1
abbrev scM1_2 : Memref sig .tc .vmem S4x1024x256 .bf16 := Memref.whole cc1_scratch2
abbrev scM1_3 : Memref sig .tc .vmem S4x1024x256 .bf16 := Memref.whole cc1_scratch3
abbrev VS1_0 : View sig .tc .vmem S4x256x2048 .bf16 := scM1_0.view
abbrev VS1_1 : View sig .tc .vmem S8x4096 .f32 := scM1_1.view
abbrev VS1_2 : View sig .tc .vmem S4x1024x256 .bf16 := scM1_2.view
abbrev VS1_3 : View sig .tc .vmem S4x1024x256 .bf16 := scM1_3.view

/-- What the second call's points only pass on: the generator and the first call's staging buffers. -/
def Side (c : Dev nD) : sProp (MM F) := iprop((∃ r, prngReg c r) ∗ (∃ f, (c : Thread nD τ).loc cc0_stg0_0 ↦{fullShare} f) ∗ (∃ f, (c : Thread nD τ).loc cc0_stg1_0 ↦{fullShare} f) ∗ (∃ f, (c : Thread nD τ).loc cc0_stg2_0 ↦{fullShare} f) ∗ (∃ f, (c : Thread nD τ).loc cc0_stg3_0 ↦{fullShare} f) ∗ (∃ f, (c : Thread nD τ).loc cc0_stg4_0 ↦{fullShare} f) ∗ (∃ f, (c : Thread nD τ).loc cc0_stg5_0 ↦{fullShare} f) ∗ (∃ f, (c : Thread nD τ).loc cc0_stg6_0 ↦{fullShare} f) ∗ (∃ f, (c : Thread nD τ).loc cc0_stg7_0 ↦{fullShare} f) ∗ (∃ f, (c : Thread nD τ).loc cc0_stg8_0 ↦{fullShare} f) ∗ (∃ f, (c : Thread nD τ).loc cc0_stg9_0 ↦{fullShare} f) ∗ (∃ f, (c : Thread nD τ).loc cc0_stg10_0 ↦{fullShare} f))
/-- The invariant before the first point: the scratch at some contents, and the rest. -/
def PhiStart (c : Dev nD) : sProp (MM F) := iprop(iprop((∃ d, owns (c : Thread nD τ) scM1_0 fullShare d) ∗ (∃ d, owns (c : Thread nD τ) scM1_1 fullShare d) ∗ (∃ d, owns (c : Thread nD τ) scM1_2 fullShare d) ∗ (∃ d, owns (c : Thread nD τ) scM1_3 fullShare d)) ∗ Side c)
theorem PhiStart_in (c : Dev nD) : (Pipeline.ΦA spec1 c : sProp (MM F)) ⊢ PhiStart c := by
  unfold Pipeline.ΦA PhiStart Side; rw [scopedRest1_eq]; simp only [scM1_0, scM1_1, scM1_2, scM1_3, owns_whole]
  iintro ⟨⟨K0, K1, K2, K3, K4, K5, K6, K7, K8, K9, K10, HS0, HS1, HS2, HS3⟩, Hg⟩
  isplitl [HS0 HS1 HS2 HS3]
  · isplitl [HS0]; · iexact HS0
    isplitl [HS1]; · iexact HS1
    isplitl [HS2]; · iexact HS2
    iexact HS3
  isplitl [Hg]; · iexact Hg
  isplitl [K0]; · iexact K0
  isplitl [K1]; · iexact K1
  isplitl [K2]; · iexact K2
  isplitl [K3]; · iexact K3
  isplitl [K4]; · iexact K4
  isplitl [K5]; · iexact K5
  isplitl [K6]; · iexact K6
  isplitl [K7]; · iexact K7
  isplitl [K8]; · iexact K8
  isplitl [K9]; · iexact K9
  iexact K10
theorem PhiStart_out (c : Dev nD) : PhiStart c ⊢ (Pipeline.ΦA spec1 c : sProp (MM F)) := by
  unfold Pipeline.ΦA PhiStart Side; rw [scopedRest1_eq]; simp only [scM1_0, scM1_1, scM1_2, scM1_3, owns_whole]
  iintro ⟨⟨HS0, HS1, HS2, HS3⟩, Hg, K0, K1, K2, K3, K4, K5, K6, K7, K8, K9, K10⟩
  isplitr [Hg]
  · isplitl [K0]; · iexact K0
    isplitl [K1]; · iexact K1
    isplitl [K2]; · iexact K2
    isplitl [K3]; · iexact K3
    isplitl [K4]; · iexact K4
    isplitl [K5]; · iexact K5
    isplitl [K6]; · iexact K6
    isplitl [K7]; · iexact K7
    isplitl [K8]; · iexact K8
    isplitl [K9]; · iexact K9
    isplitl [K10]; · iexact K10
    isplitl [HS0]; · iexact HS0
    isplitl [HS1]; · iexact HS1
    isplitl [HS2]; · iexact HS2
    iexact HS3
  iexact Hg

end Cert.Kernel13Ideal.S5

end
-- ==== Proof.S5.RunS.lean ====
module

public import proofs.«01_k».proof.Proof.S5.Runs

@[expose] public section

set_option maxRecDepth 16384

noncomputable section

namespace Cert.Kernel13Ideal.S5

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel13Ideal.Gen

variable {F : FTy → Type} [FloatOps F]
/-- The first point's filling of the scratch, with the program `k` after it. -/
noncomputable def setupThen (i : grid1.Coords) (arg1 : Memref sig .tc .vmem S512x1024 .f32) (harg1 : arg1.IsWhole) (arg2 : Memref sig .tc .vmem S128x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S1x4096 .f32) (harg8 : arg8.IsWhole) (arg9 : Memref sig .tc .vmem S1x4096 .f32) (harg9 : arg9.IsWhole) (arg10 : Memref sig .tc .vmem S4x256x64 .f32) (harg10 : arg10.IsWhole) (arg11 : Memref sig .tc .vmem S4x256x64 .f32) (harg11 : arg11.IsWhole) (arg12 : Memref sig .tc .vmem S4x1024x16 .f32) (harg12 : arg12.IsWhole) (arg13 : Memref sig .tc .vmem S4x1024x16 .f32) (harg13 : arg13.IsWhole) (arg14 : Memref sig .tc .vmem S1x1024 .f32) (harg14 : arg14.IsWhole) (arg15 : Memref sig .tc .vmem S1024x2048 .bf16) (harg15 : arg15.IsWhole) (arg16 : Memref sig .tc .vmem S1x2048 .f32) (harg16 : arg16.IsWhole) (arg17 : Memref sig .tc .vmem S512x1024 .bf16) (harg17 : arg17.IsWhole) (arg18 : Memref sig .tc .vmem S4x256x2048 .bf16) (harg18 : arg18.IsWhole) (arg19 : Memref sig .tc .vmem S8x4096 .f32) (harg19 : arg19.IsWhole) (arg20 : Memref sig .tc .vmem S4x1024x256 .bf16) (harg20 : arg20.IsWhole) (arg21 : Memref sig .tc .vmem S4x1024x256 .bf16) (harg21 : arg21.IsWhole)
    (k : Prog (TpuEff nD τ sig (Elt F) Λ₀ .tc) PUnit) : Prog (TpuEff nD τ sig (Elt F) Λ₀ .tc) PUnit := do
  let ⟨v713, v714, c16_i32, v716, v723, v729⟩ : Σ' (v713 : FVec F S64x1024 .bf16) (v714 : IVec S256x1024 32) (c16_i32 : BitVec 32) (v716 : IVec S256x1024 32) (v723 : IVec S256x1024 32), IVec S256x1024 32 ← k1_part1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21
  let ⟨v764, v767, v769, v771, v773, v774⟩ : Σ' (v764 : IVec S256x1024 1) (v767 : BitVec 32) (v769 : IVec S16x256 32) (v771 : IVec S16x256 1) (v773 : IVec S16x256 1), BitVec 1 ← k1_part2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v714 c16_i32 v716 v723 v729
  let ⟨v787, v812, v813, c16_i32_194, v815, v822⟩ : Σ' (v787 : FVec F S16x256 .bf16) (v812 : IVec S1024x256 32) (v813 : IVec S1024x256 32) (c16_i32_194 : BitVec 32) (v815 : IVec S1024x256 32), IVec S1024x256 32 ← k1_part3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v767 v769 v771 v773 v774
  let ⟨v838, v840, v842, v853, v862, cst_216⟩ : Σ' (v838 : IVec S1024x256 1) (v840 : FVec F S1x1024 .f32) (v842 : FVec F S1x1024 .f32) (v853 : FVec F S256x1024 .f32) (v862 : FVec F S256x1024 .f32), F .f32 ← k1_part4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v713 v764 v812 v813 c16_i32_194 v815 v822
  let v899 : FVec F S1024x256 .bf16 ← k1_part5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v764 v787 v838 v840 v842 v853 v862 cst_216
  let ⟨v904, v906, v917, v928, v937⟩ : Σ' (v904 : FVec F S1x1024 .f32) (v906 : FVec F S1x1024 .f32) (v917 : FVec F S256x1024 .f32) (v928 : FVec F S256x1024 .f32), FVec F S1x256x1024 .bf16 ← k1_part6 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v713 v764 v899
  let ⟨v968, v970⟩ : Σ' (v968 : FVec F S1x1024 .f32), FVec F S1x1024 .f32 ← k1_part7 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v787 v838 v904 v906 v917 v928 v937
  k1_part8 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v713 v764 v968 v970
  let ⟨v1032, v1034, v1043⟩ : Σ' (v1032 : FVec F S1x1024 .f32) (v1034 : FVec F S1x1024 .f32), FVec F S256x1024 .f32 ← k1_part9 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v713 v787 v838
  let v1081 : FVec F S1024x256 .bf16 ← k1_part10 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v713 v764 v787 v838 v1032 v1034 v1043
  let v1082 : Vec F S1x1024x256 .bf16 ← Prog.lift (.load arg20 (Rect.unit (s := S4x1024x256) ![3, 0, 0] S1x1024x256.size inb_S4x1024x256_S1x1024x256_3_0_0).toLoadRect (View.loadsAt_vmem h_S1x1024x256))
  Prog.lift (.store arg20 (Rect.unit (s := S4x1024x256) ![3, 0, 0] S1x1024x256.size inb_S4x1024x256_S1x1024x256_3_0_0) (k1_pay50 v1081) Finset.univ (View.stores_vmem h_S1x1024x256 (harg20.storeExact_slice rfl _ packedbf16_S4x1024x256_S1x1024x256_3_0_0) (fun _ => rfl)) (.inl rfl))
  let v1085 : Vec F S1x1024x16 .f32 ← Prog.lift (.load arg13 (Rect.unit (s := S4x1024x16) ![3, 0, 0] S1x1024x16.size inb_S4x1024x16_S1x1024x16_3_0_0).toLoadRect (View.loadsAt_vmem h_S1x1024x16))
  let v1092 : Vec F S1x1024x256 .bf16 ← Prog.lift (.load arg21 (Rect.unit (s := S4x1024x256) ![3, 0, 0] S1x1024x256.size inb_S4x1024x256_S1x1024x256_3_0_0).toLoadRect (View.loadsAt_vmem h_S1x1024x256))
  Prog.lift (.store arg21 (Rect.unit (s := S4x1024x256) ![3, 0, 0] S1x1024x256.size inb_S4x1024x256_S1x1024x256_3_0_0) (k1_pay51 v787 v838 v1085) Finset.univ (View.stores_vmem h_S1x1024x256 (harg21.storeExact_slice rfl _ packedbf16_S4x1024x256_S1x1024x256_3_0_0) (fun _ => rfl)) (.inl rfl))
  k

set_option maxHeartbeats 1000000 in
/-- The filling of the scratch: the pieces it leaves in each of the four buffers are the witness. -/
noncomputable def setupRun (c : Dev nD) (i : grid1.Coords) (arg1 : Memref sig .tc .vmem S512x1024 .f32) (harg1 : arg1.IsWhole) (arg2 : Memref sig .tc .vmem S128x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S1x4096 .f32) (harg8 : arg8.IsWhole) (arg9 : Memref sig .tc .vmem S1x4096 .f32) (harg9 : arg9.IsWhole) (arg10 : Memref sig .tc .vmem S4x256x64 .f32) (harg10 : arg10.IsWhole) (arg11 : Memref sig .tc .vmem S4x256x64 .f32) (harg11 : arg11.IsWhole) (arg12 : Memref sig .tc .vmem S4x1024x16 .f32) (harg12 : arg12.IsWhole) (arg13 : Memref sig .tc .vmem S4x1024x16 .f32) (harg13 : arg13.IsWhole) (arg14 : Memref sig .tc .vmem S1x1024 .f32) (harg14 : arg14.IsWhole) (arg15 : Memref sig .tc .vmem S1024x2048 .bf16) (harg15 : arg15.IsWhole) (arg16 : Memref sig .tc .vmem S1x2048 .f32) (harg16 : arg16.IsWhole) (arg17 : Memref sig .tc .vmem S512x1024 .bf16) (harg17 : arg17.IsWhole) (arg18 : Memref sig .tc .vmem S4x256x2048 .bf16) (harg18 : arg18.IsWhole) (arg19 : Memref sig .tc .vmem S8x4096 .f32) (harg19 : arg19.IsWhole) (arg20 : Memref sig .tc .vmem S4x1024x256 .bf16) (harg20 : arg20.IsWhole) (arg21 : Memref sig .tc .vmem S4x1024x256 .bf16) (harg21 : arg21.IsWhole)
    (x0 : Vec F S512x1024 .f32) (x1 : Vec F S128x4096 .f32) (x2 : Vec F S128x4096 .f32) (x3 : Vec F S128x4096 .f32) (x4 : Vec F S128x4096 .f32) (x5 : Vec F S1x4096 .f32) (x6 : Vec F S1x4096 .f32) (x7 : Vec F S1x4096 .f32) (x8 : Vec F S1x4096 .f32) (x9 : Vec F S4x256x64 .f32) (x10 : Vec F S4x256x64 .f32) (x11 : Vec F S4x1024x16 .f32) (x12 : Vec F S4x1024x16 .f32) (x13 : Vec F S1x1024 .f32) (x14 : Vec F S1024x2048 .bf16) (x15 : Vec F S1x2048 .f32) :
    Σ' (LS0 : List (View.Piece (Elt F) S4x256x2048 .bf16)), Σ' (LS1 : List (View.Piece (Elt F) S8x4096 .f32)), Σ' (LS2 : List (View.Piece (Elt F) S4x1024x256 .bf16)), { LS3 : List (View.Piece (Elt F) S4x1024x256 .bf16) //
      ∀ (E : Set ℕ) (K : PUnit → sProp (MM F)) (k : Prog (TpuEff nD τ sig (Elt F) Λ₀ .tc) PUnit),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ f, arg18.view.loc (c : Thread nD τ) ↦[arg18.view.set]{fullShare} arg18.view.writes (Elt F) f LS0) ∗ (∃ f, arg19.view.loc (c : Thread nD τ) ↦[arg19.view.set]{fullShare} arg19.view.writes (Elt F) f LS1) ∗ (∃ f, arg20.view.loc (c : Thread nD τ) ↦[arg20.view.set]{fullShare} arg20.view.writes (Elt F) f LS2) ∗ (∃ f, arg21.view.loc (c : Thread nD τ) ↦[arg21.view.set]{fullShare} arg21.view.writes (Elt F) f LS3)) -∗ wp frame (wpE (defs₀ (F := F)) Variants.none c none) E k K))
          ⊢ wp frame (wpE (defs₀ (F := F)) Variants.none c none) E (setupThen i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k) K } := by
  refine ⟨?_, ?_, ?_, ?_, fun E K k => ?run⟩
  case run =>
    unfold setupThen
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15
    sl_exec
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [HS0]; · iexists _; iexact HS0
    isplitl [HS1]; · iexists _; iexact HS1
    isplitl [HS2]; · iexists _; iexact HS2
    iexists _; iexact HS3

theorem setCover0 (c : Dev nD) (i : grid1.Coords) (arg1 : Memref sig .tc .vmem S512x1024 .f32) (harg1 : arg1.IsWhole) (arg2 : Memref sig .tc .vmem S128x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S1x4096 .f32) (harg8 : arg8.IsWhole) (arg9 : Memref sig .tc .vmem S1x4096 .f32) (harg9 : arg9.IsWhole) (arg10 : Memref sig .tc .vmem S4x256x64 .f32) (harg10 : arg10.IsWhole) (arg11 : Memref sig .tc .vmem S4x256x64 .f32) (harg11 : arg11.IsWhole) (arg12 : Memref sig .tc .vmem S4x1024x16 .f32) (harg12 : arg12.IsWhole) (arg13 : Memref sig .tc .vmem S4x1024x16 .f32) (harg13 : arg13.IsWhole) (arg14 : Memref sig .tc .vmem S1x1024 .f32) (harg14 : arg14.IsWhole) (arg15 : Memref sig .tc .vmem S1024x2048 .bf16) (harg15 : arg15.IsWhole) (arg16 : Memref sig .tc .vmem S1x2048 .f32) (harg16 : arg16.IsWhole) (arg17 : Memref sig .tc .vmem S512x1024 .bf16) (harg17 : arg17.IsWhole) (arg18 : Memref sig .tc .vmem S4x256x2048 .bf16) (harg18 : arg18.IsWhole) (arg19 : Memref sig .tc .vmem S8x4096 .f32) (harg19 : arg19.IsWhole) (arg20 : Memref sig .tc .vmem S4x1024x256 .bf16) (harg20 : arg20.IsWhole) (arg21 : Memref sig .tc .vmem S4x1024x256 .bf16) (harg21 : arg21.IsWhole)
    (x0 : Vec F S512x1024 .f32) (x1 : Vec F S128x4096 .f32) (x2 : Vec F S128x4096 .f32) (x3 : Vec F S128x4096 .f32) (x4 : Vec F S128x4096 .f32) (x5 : Vec F S1x4096 .f32) (x6 : Vec F S1x4096 .f32) (x7 : Vec F S1x4096 .f32) (x8 : Vec F S1x4096 .f32) (x9 : Vec F S4x256x64 .f32) (x10 : Vec F S4x256x64 .f32) (x11 : Vec F S4x1024x16 .f32) (x12 : Vec F S4x1024x16 .f32) (x13 : Vec F S1x1024 .f32) (x14 : Vec F S1024x2048 .bf16) (x15 : Vec F S1x2048 .f32) (y : S4x256x2048.Idx) :
    ∃ pc ∈ (setupRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15).1, y ∈ pc.1.set :=
  View.cover_of_tiledL (setupRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15).1 S1x256x1024.size (by sl_kernel_rfl) y
/-- What the filling leaves in scratch buffer 0. -/
def setS0 (c : Dev nD) (i : grid1.Coords) (arg1 : Memref sig .tc .vmem S512x1024 .f32) (harg1 : arg1.IsWhole) (arg2 : Memref sig .tc .vmem S128x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S1x4096 .f32) (harg8 : arg8.IsWhole) (arg9 : Memref sig .tc .vmem S1x4096 .f32) (harg9 : arg9.IsWhole) (arg10 : Memref sig .tc .vmem S4x256x64 .f32) (harg10 : arg10.IsWhole) (arg11 : Memref sig .tc .vmem S4x256x64 .f32) (harg11 : arg11.IsWhole) (arg12 : Memref sig .tc .vmem S4x1024x16 .f32) (harg12 : arg12.IsWhole) (arg13 : Memref sig .tc .vmem S4x1024x16 .f32) (harg13 : arg13.IsWhole) (arg14 : Memref sig .tc .vmem S1x1024 .f32) (harg14 : arg14.IsWhole) (arg15 : Memref sig .tc .vmem S1024x2048 .bf16) (harg15 : arg15.IsWhole) (arg16 : Memref sig .tc .vmem S1x2048 .f32) (harg16 : arg16.IsWhole) (arg17 : Memref sig .tc .vmem S512x1024 .bf16) (harg17 : arg17.IsWhole) (arg18 : Memref sig .tc .vmem S4x256x2048 .bf16) (harg18 : arg18.IsWhole) (arg19 : Memref sig .tc .vmem S8x4096 .f32) (harg19 : arg19.IsWhole) (arg20 : Memref sig .tc .vmem S4x1024x256 .bf16) (harg20 : arg20.IsWhole) (arg21 : Memref sig .tc .vmem S4x1024x256 .bf16) (harg21 : arg21.IsWhole)
    (x0 : Vec F S512x1024 .f32) (x1 : Vec F S128x4096 .f32) (x2 : Vec F S128x4096 .f32) (x3 : Vec F S128x4096 .f32) (x4 : Vec F S128x4096 .f32) (x5 : Vec F S1x4096 .f32) (x6 : Vec F S1x4096 .f32) (x7 : Vec F S1x4096 .f32) (x8 : Vec F S1x4096 .f32) (x9 : Vec F S4x256x64 .f32) (x10 : Vec F S4x256x64 .f32) (x11 : Vec F S4x1024x16 .f32) (x12 : Vec F S4x1024x16 .f32) (x13 : Vec F S1x1024 .f32) (x14 : Vec F S1024x2048 .bf16) (x15 : Vec F S1x2048 .f32) : Vec F S4x256x2048 .bf16 :=
  VS1_0.read (Elt F) (VS1_0.writes (Elt F) VS1_0.junk (setupRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15).1)

theorem setCover1 (c : Dev nD) (i : grid1.Coords) (arg1 : Memref sig .tc .vmem S512x1024 .f32) (harg1 : arg1.IsWhole) (arg2 : Memref sig .tc .vmem S128x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S1x4096 .f32) (harg8 : arg8.IsWhole) (arg9 : Memref sig .tc .vmem S1x4096 .f32) (harg9 : arg9.IsWhole) (arg10 : Memref sig .tc .vmem S4x256x64 .f32) (harg10 : arg10.IsWhole) (arg11 : Memref sig .tc .vmem S4x256x64 .f32) (harg11 : arg11.IsWhole) (arg12 : Memref sig .tc .vmem S4x1024x16 .f32) (harg12 : arg12.IsWhole) (arg13 : Memref sig .tc .vmem S4x1024x16 .f32) (harg13 : arg13.IsWhole) (arg14 : Memref sig .tc .vmem S1x1024 .f32) (harg14 : arg14.IsWhole) (arg15 : Memref sig .tc .vmem S1024x2048 .bf16) (harg15 : arg15.IsWhole) (arg16 : Memref sig .tc .vmem S1x2048 .f32) (harg16 : arg16.IsWhole) (arg17 : Memref sig .tc .vmem S512x1024 .bf16) (harg17 : arg17.IsWhole) (arg18 : Memref sig .tc .vmem S4x256x2048 .bf16) (harg18 : arg18.IsWhole) (arg19 : Memref sig .tc .vmem S8x4096 .f32) (harg19 : arg19.IsWhole) (arg20 : Memref sig .tc .vmem S4x1024x256 .bf16) (harg20 : arg20.IsWhole) (arg21 : Memref sig .tc .vmem S4x1024x256 .bf16) (harg21 : arg21.IsWhole)
    (x0 : Vec F S512x1024 .f32) (x1 : Vec F S128x4096 .f32) (x2 : Vec F S128x4096 .f32) (x3 : Vec F S128x4096 .f32) (x4 : Vec F S128x4096 .f32) (x5 : Vec F S1x4096 .f32) (x6 : Vec F S1x4096 .f32) (x7 : Vec F S1x4096 .f32) (x8 : Vec F S1x4096 .f32) (x9 : Vec F S4x256x64 .f32) (x10 : Vec F S4x256x64 .f32) (x11 : Vec F S4x1024x16 .f32) (x12 : Vec F S4x1024x16 .f32) (x13 : Vec F S1x1024 .f32) (x14 : Vec F S1024x2048 .bf16) (x15 : Vec F S1x2048 .f32) (y : S8x4096.Idx) :
    ∃ pc ∈ (setupRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15).2.1, y ∈ pc.1.set :=
  View.cover_of_wholeMem (setupRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15).2.1 (by sl_whole_mem) y
/-- What the filling leaves in scratch buffer 1. -/
def setS1 (c : Dev nD) (i : grid1.Coords) (arg1 : Memref sig .tc .vmem S512x1024 .f32) (harg1 : arg1.IsWhole) (arg2 : Memref sig .tc .vmem S128x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S1x4096 .f32) (harg8 : arg8.IsWhole) (arg9 : Memref sig .tc .vmem S1x4096 .f32) (harg9 : arg9.IsWhole) (arg10 : Memref sig .tc .vmem S4x256x64 .f32) (harg10 : arg10.IsWhole) (arg11 : Memref sig .tc .vmem S4x256x64 .f32) (harg11 : arg11.IsWhole) (arg12 : Memref sig .tc .vmem S4x1024x16 .f32) (harg12 : arg12.IsWhole) (arg13 : Memref sig .tc .vmem S4x1024x16 .f32) (harg13 : arg13.IsWhole) (arg14 : Memref sig .tc .vmem S1x1024 .f32) (harg14 : arg14.IsWhole) (arg15 : Memref sig .tc .vmem S1024x2048 .bf16) (harg15 : arg15.IsWhole) (arg16 : Memref sig .tc .vmem S1x2048 .f32) (harg16 : arg16.IsWhole) (arg17 : Memref sig .tc .vmem S512x1024 .bf16) (harg17 : arg17.IsWhole) (arg18 : Memref sig .tc .vmem S4x256x2048 .bf16) (harg18 : arg18.IsWhole) (arg19 : Memref sig .tc .vmem S8x4096 .f32) (harg19 : arg19.IsWhole) (arg20 : Memref sig .tc .vmem S4x1024x256 .bf16) (harg20 : arg20.IsWhole) (arg21 : Memref sig .tc .vmem S4x1024x256 .bf16) (harg21 : arg21.IsWhole)
    (x0 : Vec F S512x1024 .f32) (x1 : Vec F S128x4096 .f32) (x2 : Vec F S128x4096 .f32) (x3 : Vec F S128x4096 .f32) (x4 : Vec F S128x4096 .f32) (x5 : Vec F S1x4096 .f32) (x6 : Vec F S1x4096 .f32) (x7 : Vec F S1x4096 .f32) (x8 : Vec F S1x4096 .f32) (x9 : Vec F S4x256x64 .f32) (x10 : Vec F S4x256x64 .f32) (x11 : Vec F S4x1024x16 .f32) (x12 : Vec F S4x1024x16 .f32) (x13 : Vec F S1x1024 .f32) (x14 : Vec F S1024x2048 .bf16) (x15 : Vec F S1x2048 .f32) : Vec F S8x4096 .f32 :=
  VS1_1.read (Elt F) (VS1_1.writes (Elt F) VS1_1.junk (setupRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15).2.1)

theorem setCover2 (c : Dev nD) (i : grid1.Coords) (arg1 : Memref sig .tc .vmem S512x1024 .f32) (harg1 : arg1.IsWhole) (arg2 : Memref sig .tc .vmem S128x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S1x4096 .f32) (harg8 : arg8.IsWhole) (arg9 : Memref sig .tc .vmem S1x4096 .f32) (harg9 : arg9.IsWhole) (arg10 : Memref sig .tc .vmem S4x256x64 .f32) (harg10 : arg10.IsWhole) (arg11 : Memref sig .tc .vmem S4x256x64 .f32) (harg11 : arg11.IsWhole) (arg12 : Memref sig .tc .vmem S4x1024x16 .f32) (harg12 : arg12.IsWhole) (arg13 : Memref sig .tc .vmem S4x1024x16 .f32) (harg13 : arg13.IsWhole) (arg14 : Memref sig .tc .vmem S1x1024 .f32) (harg14 : arg14.IsWhole) (arg15 : Memref sig .tc .vmem S1024x2048 .bf16) (harg15 : arg15.IsWhole) (arg16 : Memref sig .tc .vmem S1x2048 .f32) (harg16 : arg16.IsWhole) (arg17 : Memref sig .tc .vmem S512x1024 .bf16) (harg17 : arg17.IsWhole) (arg18 : Memref sig .tc .vmem S4x256x2048 .bf16) (harg18 : arg18.IsWhole) (arg19 : Memref sig .tc .vmem S8x4096 .f32) (harg19 : arg19.IsWhole) (arg20 : Memref sig .tc .vmem S4x1024x256 .bf16) (harg20 : arg20.IsWhole) (arg21 : Memref sig .tc .vmem S4x1024x256 .bf16) (harg21 : arg21.IsWhole)
    (x0 : Vec F S512x1024 .f32) (x1 : Vec F S128x4096 .f32) (x2 : Vec F S128x4096 .f32) (x3 : Vec F S128x4096 .f32) (x4 : Vec F S128x4096 .f32) (x5 : Vec F S1x4096 .f32) (x6 : Vec F S1x4096 .f32) (x7 : Vec F S1x4096 .f32) (x8 : Vec F S1x4096 .f32) (x9 : Vec F S4x256x64 .f32) (x10 : Vec F S4x256x64 .f32) (x11 : Vec F S4x1024x16 .f32) (x12 : Vec F S4x1024x16 .f32) (x13 : Vec F S1x1024 .f32) (x14 : Vec F S1024x2048 .bf16) (x15 : Vec F S1x2048 .f32) (y : S4x1024x256.Idx) :
    ∃ pc ∈ (setupRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15).2.2.1, y ∈ pc.1.set :=
  View.cover_of_tiledL (setupRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15).2.2.1 S1x1024x256.size (by sl_kernel_rfl) y
/-- What the filling leaves in scratch buffer 2. -/
def setS2 (c : Dev nD) (i : grid1.Coords) (arg1 : Memref sig .tc .vmem S512x1024 .f32) (harg1 : arg1.IsWhole) (arg2 : Memref sig .tc .vmem S128x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S1x4096 .f32) (harg8 : arg8.IsWhole) (arg9 : Memref sig .tc .vmem S1x4096 .f32) (harg9 : arg9.IsWhole) (arg10 : Memref sig .tc .vmem S4x256x64 .f32) (harg10 : arg10.IsWhole) (arg11 : Memref sig .tc .vmem S4x256x64 .f32) (harg11 : arg11.IsWhole) (arg12 : Memref sig .tc .vmem S4x1024x16 .f32) (harg12 : arg12.IsWhole) (arg13 : Memref sig .tc .vmem S4x1024x16 .f32) (harg13 : arg13.IsWhole) (arg14 : Memref sig .tc .vmem S1x1024 .f32) (harg14 : arg14.IsWhole) (arg15 : Memref sig .tc .vmem S1024x2048 .bf16) (harg15 : arg15.IsWhole) (arg16 : Memref sig .tc .vmem S1x2048 .f32) (harg16 : arg16.IsWhole) (arg17 : Memref sig .tc .vmem S512x1024 .bf16) (harg17 : arg17.IsWhole) (arg18 : Memref sig .tc .vmem S4x256x2048 .bf16) (harg18 : arg18.IsWhole) (arg19 : Memref sig .tc .vmem S8x4096 .f32) (harg19 : arg19.IsWhole) (arg20 : Memref sig .tc .vmem S4x1024x256 .bf16) (harg20 : arg20.IsWhole) (arg21 : Memref sig .tc .vmem S4x1024x256 .bf16) (harg21 : arg21.IsWhole)
    (x0 : Vec F S512x1024 .f32) (x1 : Vec F S128x4096 .f32) (x2 : Vec F S128x4096 .f32) (x3 : Vec F S128x4096 .f32) (x4 : Vec F S128x4096 .f32) (x5 : Vec F S1x4096 .f32) (x6 : Vec F S1x4096 .f32) (x7 : Vec F S1x4096 .f32) (x8 : Vec F S1x4096 .f32) (x9 : Vec F S4x256x64 .f32) (x10 : Vec F S4x256x64 .f32) (x11 : Vec F S4x1024x16 .f32) (x12 : Vec F S4x1024x16 .f32) (x13 : Vec F S1x1024 .f32) (x14 : Vec F S1024x2048 .bf16) (x15 : Vec F S1x2048 .f32) : Vec F S4x1024x256 .bf16 :=
  VS1_2.read (Elt F) (VS1_2.writes (Elt F) VS1_2.junk (setupRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15).2.2.1)

theorem setCover3 (c : Dev nD) (i : grid1.Coords) (arg1 : Memref sig .tc .vmem S512x1024 .f32) (harg1 : arg1.IsWhole) (arg2 : Memref sig .tc .vmem S128x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S1x4096 .f32) (harg8 : arg8.IsWhole) (arg9 : Memref sig .tc .vmem S1x4096 .f32) (harg9 : arg9.IsWhole) (arg10 : Memref sig .tc .vmem S4x256x64 .f32) (harg10 : arg10.IsWhole) (arg11 : Memref sig .tc .vmem S4x256x64 .f32) (harg11 : arg11.IsWhole) (arg12 : Memref sig .tc .vmem S4x1024x16 .f32) (harg12 : arg12.IsWhole) (arg13 : Memref sig .tc .vmem S4x1024x16 .f32) (harg13 : arg13.IsWhole) (arg14 : Memref sig .tc .vmem S1x1024 .f32) (harg14 : arg14.IsWhole) (arg15 : Memref sig .tc .vmem S1024x2048 .bf16) (harg15 : arg15.IsWhole) (arg16 : Memref sig .tc .vmem S1x2048 .f32) (harg16 : arg16.IsWhole) (arg17 : Memref sig .tc .vmem S512x1024 .bf16) (harg17 : arg17.IsWhole) (arg18 : Memref sig .tc .vmem S4x256x2048 .bf16) (harg18 : arg18.IsWhole) (arg19 : Memref sig .tc .vmem S8x4096 .f32) (harg19 : arg19.IsWhole) (arg20 : Memref sig .tc .vmem S4x1024x256 .bf16) (harg20 : arg20.IsWhole) (arg21 : Memref sig .tc .vmem S4x1024x256 .bf16) (harg21 : arg21.IsWhole)
    (x0 : Vec F S512x1024 .f32) (x1 : Vec F S128x4096 .f32) (x2 : Vec F S128x4096 .f32) (x3 : Vec F S128x4096 .f32) (x4 : Vec F S128x4096 .f32) (x5 : Vec F S1x4096 .f32) (x6 : Vec F S1x4096 .f32) (x7 : Vec F S1x4096 .f32) (x8 : Vec F S1x4096 .f32) (x9 : Vec F S4x256x64 .f32) (x10 : Vec F S4x256x64 .f32) (x11 : Vec F S4x1024x16 .f32) (x12 : Vec F S4x1024x16 .f32) (x13 : Vec F S1x1024 .f32) (x14 : Vec F S1024x2048 .bf16) (x15 : Vec F S1x2048 .f32) (y : S4x1024x256.Idx) :
    ∃ pc ∈ (setupRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15).2.2.2.1, y ∈ pc.1.set :=
  View.cover_of_tiledL (setupRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15).2.2.2.1 S1x1024x256.size (by sl_kernel_rfl) y
/-- What the filling leaves in scratch buffer 3. -/
def setS3 (c : Dev nD) (i : grid1.Coords) (arg1 : Memref sig .tc .vmem S512x1024 .f32) (harg1 : arg1.IsWhole) (arg2 : Memref sig .tc .vmem S128x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S1x4096 .f32) (harg8 : arg8.IsWhole) (arg9 : Memref sig .tc .vmem S1x4096 .f32) (harg9 : arg9.IsWhole) (arg10 : Memref sig .tc .vmem S4x256x64 .f32) (harg10 : arg10.IsWhole) (arg11 : Memref sig .tc .vmem S4x256x64 .f32) (harg11 : arg11.IsWhole) (arg12 : Memref sig .tc .vmem S4x1024x16 .f32) (harg12 : arg12.IsWhole) (arg13 : Memref sig .tc .vmem S4x1024x16 .f32) (harg13 : arg13.IsWhole) (arg14 : Memref sig .tc .vmem S1x1024 .f32) (harg14 : arg14.IsWhole) (arg15 : Memref sig .tc .vmem S1024x2048 .bf16) (harg15 : arg15.IsWhole) (arg16 : Memref sig .tc .vmem S1x2048 .f32) (harg16 : arg16.IsWhole) (arg17 : Memref sig .tc .vmem S512x1024 .bf16) (harg17 : arg17.IsWhole) (arg18 : Memref sig .tc .vmem S4x256x2048 .bf16) (harg18 : arg18.IsWhole) (arg19 : Memref sig .tc .vmem S8x4096 .f32) (harg19 : arg19.IsWhole) (arg20 : Memref sig .tc .vmem S4x1024x256 .bf16) (harg20 : arg20.IsWhole) (arg21 : Memref sig .tc .vmem S4x1024x256 .bf16) (harg21 : arg21.IsWhole)
    (x0 : Vec F S512x1024 .f32) (x1 : Vec F S128x4096 .f32) (x2 : Vec F S128x4096 .f32) (x3 : Vec F S128x4096 .f32) (x4 : Vec F S128x4096 .f32) (x5 : Vec F S1x4096 .f32) (x6 : Vec F S1x4096 .f32) (x7 : Vec F S1x4096 .f32) (x8 : Vec F S1x4096 .f32) (x9 : Vec F S4x256x64 .f32) (x10 : Vec F S4x256x64 .f32) (x11 : Vec F S4x1024x16 .f32) (x12 : Vec F S4x1024x16 .f32) (x13 : Vec F S1x1024 .f32) (x14 : Vec F S1024x2048 .bf16) (x15 : Vec F S1x2048 .f32) : Vec F S4x1024x256 .bf16 :=
  VS1_3.read (Elt F) (VS1_3.writes (Elt F) VS1_3.junk (setupRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15).2.2.2.1)

end Cert.Kernel13Ideal.S5

end
-- ==== Proof.S5.RunB.lean ====
module

public import proofs.«01_k».proof.Proof.S5.RunS

@[expose] public section

set_option maxRecDepth 16384

noncomputable section

namespace Cert.Kernel13Ideal.S5

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel13Ideal.Gen

variable {F : FTy → Type} [FloatOps F]
set_option maxHeartbeats 1600000 in
noncomputable def kernelRun1_B (c : Dev nD) (i : grid1.Coords) (arg1 : Memref sig .tc .vmem S512x1024 .f32) (harg1 : arg1.IsWhole) (arg2 : Memref sig .tc .vmem S128x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S1x4096 .f32) (harg8 : arg8.IsWhole) (arg9 : Memref sig .tc .vmem S1x4096 .f32) (harg9 : arg9.IsWhole) (arg10 : Memref sig .tc .vmem S4x256x64 .f32) (harg10 : arg10.IsWhole) (arg11 : Memref sig .tc .vmem S4x256x64 .f32) (harg11 : arg11.IsWhole) (arg12 : Memref sig .tc .vmem S4x1024x16 .f32) (harg12 : arg12.IsWhole) (arg13 : Memref sig .tc .vmem S4x1024x16 .f32) (harg13 : arg13.IsWhole) (arg14 : Memref sig .tc .vmem S1x1024 .f32) (harg14 : arg14.IsWhole) (arg15 : Memref sig .tc .vmem S1024x2048 .bf16) (harg15 : arg15.IsWhole) (arg16 : Memref sig .tc .vmem S1x2048 .f32) (harg16 : arg16.IsWhole) (arg17 : Memref sig .tc .vmem S512x1024 .bf16) (harg17 : arg17.IsWhole) (arg18 : Memref sig .tc .vmem S4x256x2048 .bf16) (harg18 : arg18.IsWhole) (arg19 : Memref sig .tc .vmem S8x4096 .f32) (harg19 : arg19.IsWhole) (arg20 : Memref sig .tc .vmem S4x1024x256 .bf16) (harg20 : arg20.IsWhole) (arg21 : Memref sig .tc .vmem S4x1024x256 .bf16) (harg21 : arg21.IsWhole) (hc0 : ¬cond1_0 i)
    (x0 : Vec F S512x1024 .f32) (x1 : Vec F S128x4096 .f32) (x2 : Vec F S128x4096 .f32) (x3 : Vec F S128x4096 .f32) (x4 : Vec F S128x4096 .f32) (x5 : Vec F S1x4096 .f32) (x6 : Vec F S1x4096 .f32) (x7 : Vec F S1x4096 .f32) (x8 : Vec F S1x4096 .f32) (x9 : Vec F S4x256x64 .f32) (x10 : Vec F S4x256x64 .f32) (x11 : Vec F S4x1024x16 .f32) (x12 : Vec F S4x1024x16 .f32) (x13 : Vec F S1x1024 .f32) (x14 : Vec F S1024x2048 .bf16) (x15 : Vec F S1x2048 .f32) (xs0 : Vec F S4x256x2048 .bf16) (xs1 : Vec F S8x4096 .f32) (xs2 : Vec F S4x1024x256 .bf16) (xs3 : Vec F S4x1024x256 .bf16) :
    Σ' (L16 : List (View.Piece (Elt F) S512x1024 .bf16)), Σ' (LS0 : List (View.Piece (Elt F) S4x256x2048 .bf16)), Σ' (LS1 : List (View.Piece (Elt F) S8x4096 .f32)), Σ' (LS2 : List (View.Piece (Elt F) S4x1024x256 .bf16)), { LS3 : List (View.Piece (Elt F) S4x1024x256 .bf16) //
      ∀ (E : Set ℕ) (K : PUnit → sProp (MM F)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d) ∗ owns (c : Thread nD τ) arg18 fullShare xs0 ∗ owns (c : Thread nD τ) arg19 fullShare xs1 ∗ owns (c : Thread nD τ) arg20 fullShare xs2 ∗ owns (c : Thread nD τ) arg21 fullShare xs3
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ f, arg17.view.loc (c : Thread nD τ) ↦[arg17.view.set]{fullShare} arg17.view.writes (Elt F) f L16) ∗ owns (c : Thread nD τ) arg18 fullShare xs0 ∗ (arg19.view.loc (c : Thread nD τ) ↦[arg19.view.set]{fullShare} arg19.view.writes (Elt F) (harg19.unread xs1) LS1) ∗ owns (c : Thread nD τ) arg20 fullShare xs2 ∗ owns (c : Thread nD τ) arg21 fullShare xs3) -∗ K ⟨⟩))
          ⊢ wp frame (wpE (defs₀ (F := F)) Variants.none c none) E (cc1_s5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, [], ?_, [], [], fun E K => ?run⟩
  case run =>
    simp only [cc1_s5_eq_skeleton]; unfold cc1_s5_skel
    simp only [k1_part24_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%fs0, %hfs0, HS0⟩, ⟨%fs1, %hfs1, HS1⟩, ⟨%fs2, %hfs2, HS2⟩, ⟨%fs3, %hfs3, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg18.eq_unread hfs0; obtain rfl := harg19.eq_unread hfs1; obtain rfl := harg20.eq_unread hfs2; obtain rfl := harg21.eq_unread hfs3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]; · iexists _; iexact H16
    isplitl [HS0]
    · iexists _; isplitr; · ipureintro; exact harg18.read_unread _
      iexact HS0
    isplitl [HS1]; · iexact HS1
    isplitl [HS2]
    · iexists _; isplitr; · ipureintro; exact harg20.read_unread _
      iexact HS2
    iexists _; isplitr; · ipureintro; exact harg21.read_unread _
    iexact HS3

end Cert.Kernel13Ideal.S5

end
-- ==== Proof.S5.RunA.lean ====
module

public import proofs.«01_k».proof.Proof.S5.RunB

@[expose] public section

set_option maxRecDepth 16384

noncomputable section

namespace Cert.Kernel13Ideal.S5

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel13Ideal.Gen

variable {F : FTy → Type} [FloatOps F]
/-- A point of the grid that is not the first. -/
abbrev later : grid1.Coords := grid1.coords ⟨1, by decide⟩
theorem later_not : ¬cond1_0 later := fun h => absurd ((hcond1_0 ⟨1, by decide⟩).mp h) (by decide)

set_option maxHeartbeats 1000000 in
/-- The body at the first point is the filling of the scratch, then the body at a later point. -/
theorem cc1_split (i : grid1.Coords) (arg1 : Memref sig .tc .vmem S512x1024 .f32) (harg1 : arg1.IsWhole) (arg2 : Memref sig .tc .vmem S128x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S1x4096 .f32) (harg8 : arg8.IsWhole) (arg9 : Memref sig .tc .vmem S1x4096 .f32) (harg9 : arg9.IsWhole) (arg10 : Memref sig .tc .vmem S4x256x64 .f32) (harg10 : arg10.IsWhole) (arg11 : Memref sig .tc .vmem S4x256x64 .f32) (harg11 : arg11.IsWhole) (arg12 : Memref sig .tc .vmem S4x1024x16 .f32) (harg12 : arg12.IsWhole) (arg13 : Memref sig .tc .vmem S4x1024x16 .f32) (harg13 : arg13.IsWhole) (arg14 : Memref sig .tc .vmem S1x1024 .f32) (harg14 : arg14.IsWhole) (arg15 : Memref sig .tc .vmem S1024x2048 .bf16) (harg15 : arg15.IsWhole) (arg16 : Memref sig .tc .vmem S1x2048 .f32) (harg16 : arg16.IsWhole) (arg17 : Memref sig .tc .vmem S512x1024 .bf16) (harg17 : arg17.IsWhole) (arg18 : Memref sig .tc .vmem S4x256x2048 .bf16) (harg18 : arg18.IsWhole) (arg19 : Memref sig .tc .vmem S8x4096 .f32) (harg19 : arg19.IsWhole) (arg20 : Memref sig .tc .vmem S4x1024x256 .bf16) (harg20 : arg20.IsWhole) (arg21 : Memref sig .tc .vmem S4x1024x256 .bf16) (harg21 : arg21.IsWhole) (hc0 : cond1_0 i) :
    cc1_s5 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 = setupThen i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (cc1_s5 later arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) := by
  have h1 : (Scalar.cmpi .ne (Scalar.extui (Scalar.cmpi .eq (BitVec.ofNat 32 (i 0).val) 0#32)) 0#32) = 1#1 := hc0
  have h2 : ¬(Scalar.cmpi .ne (Scalar.extui (Scalar.cmpi .eq (BitVec.ofNat 32 (later 0).val) 0#32)) 0#32) = 1#1 := later_not
  rw [cc1_s5_eq_skeleton]; unfold cc1_s5_skel; rw [k1_part11_eq_skeleton]; unfold k1_part11_skel setupThen
  simp only [dif_pos h1, dif_neg h2, bind_assoc, pure_bind]
  rfl

set_option maxHeartbeats 1000000 in
/-- The second call's body at its first point: the scratch is filled, and the rest is a later point's body. -/
theorem run1_A (c : Dev nD) (i : grid1.Coords) (arg1 : Memref sig .tc .vmem S512x1024 .f32) (harg1 : arg1.IsWhole) (arg2 : Memref sig .tc .vmem S128x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S1x4096 .f32) (harg8 : arg8.IsWhole) (arg9 : Memref sig .tc .vmem S1x4096 .f32) (harg9 : arg9.IsWhole) (arg10 : Memref sig .tc .vmem S4x256x64 .f32) (harg10 : arg10.IsWhole) (arg11 : Memref sig .tc .vmem S4x256x64 .f32) (harg11 : arg11.IsWhole) (arg12 : Memref sig .tc .vmem S4x1024x16 .f32) (harg12 : arg12.IsWhole) (arg13 : Memref sig .tc .vmem S4x1024x16 .f32) (harg13 : arg13.IsWhole) (arg14 : Memref sig .tc .vmem S1x1024 .f32) (harg14 : arg14.IsWhole) (arg15 : Memref sig .tc .vmem S1024x2048 .bf16) (harg15 : arg15.IsWhole) (arg16 : Memref sig .tc .vmem S1x2048 .f32) (harg16 : arg16.IsWhole) (arg17 : Memref sig .tc .vmem S512x1024 .bf16) (harg17 : arg17.IsWhole) (arg18 : Memref sig .tc .vmem S4x256x2048 .bf16) (harg18 : arg18.IsWhole) (arg19 : Memref sig .tc .vmem S8x4096 .f32) (harg19 : arg19.IsWhole) (arg20 : Memref sig .tc .vmem S4x1024x256 .bf16) (harg20 : arg20.IsWhole) (arg21 : Memref sig .tc .vmem S4x1024x256 .bf16) (harg21 : arg21.IsWhole) (hc0 : cond1_0 i)
    (x0 : Vec F S512x1024 .f32) (x1 : Vec F S128x4096 .f32) (x2 : Vec F S128x4096 .f32) (x3 : Vec F S128x4096 .f32) (x4 : Vec F S128x4096 .f32) (x5 : Vec F S1x4096 .f32) (x6 : Vec F S1x4096 .f32) (x7 : Vec F S1x4096 .f32) (x8 : Vec F S1x4096 .f32) (x9 : Vec F S4x256x64 .f32) (x10 : Vec F S4x256x64 .f32) (x11 : Vec F S4x1024x16 .f32) (x12 : Vec F S4x1024x16 .f32) (x13 : Vec F S1x1024 .f32) (x14 : Vec F S1024x2048 .bf16) (x15 : Vec F S1x2048 .f32) (E : Set ℕ) (K : PUnit → sProp (MM F)) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ f, arg17.view.loc (c : Thread nD τ) ↦[arg17.view.set]{fullShare} arg17.view.writes (Elt F) f (kernelRun1_B c later arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 later_not x0 x1 x2 x3 x4 x5 x6 x7 x8 x9 x10 x11 x12 x13 x14 x15 (setS0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15) (setS1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15) (setS2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15) (setS3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15)).1) ∗ owns (c : Thread nD τ) arg18 fullShare (setS0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15) ∗ owns (c : Thread nD τ) arg19 fullShare (arg19.view.read (Elt F) (arg19.view.writes (Elt F) (harg19.unread (setS1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15)) (kernelRun1_B c later arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 later_not x0 x1 x2 x3 x4 x5 x6 x7 x8 x9 x10 x11 x12 x13 x14 x15 (setS0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15) (setS1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15) (setS2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15) (setS3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15)).2.2.1)) ∗ owns (c : Thread nD τ) arg20 fullShare (setS2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15) ∗ owns (c : Thread nD τ) arg21 fullShare (setS3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15)) -∗ K ⟨⟩))
      ⊢ wp frame (wpE (defs₀ (F := F)) Variants.none c none) E (cc1_s5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  rw [cc1_split i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0]
  iintro ⟨H0, H1, H2, H3, H4, H5, H6, H7, H8, H9, H10, H11, H12, H13, H14, H15, H16, HS0, HS1, HS2, HS3, Hk⟩
  iapply ((setupRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15).2.2.2.2 E K _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [HS0]; · iexact HS0
  isplitl [HS1]; · iexact HS1
  isplitl [HS2]; · iexact HS2
  isplitl [HS3]; · iexact HS3
  iintro ⟨H0, H1, H2, H3, H4, H5, H6, H7, H8, H9, H10, H11, H12, H13, H14, H15, ⟨%e0, HS0⟩, ⟨%e1, HS1⟩, ⟨%e2, HS2⟩, ⟨%e3, HS3⟩⟩
  iapply ((kernelRun1_B c later arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 later_not x0 x1 x2 x3 x4 x5 x6 x7 x8 x9 x10 x11 x12 x13 x14 x15 (setS0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15) (setS1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15) (setS2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15) (setS3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15)).2.2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [HS0]
  · unfold owns; iexists _; isplitr
    swap; · iexact HS0
    ipureintro; exact View.read_writes_of_cover _ _ _ _ _ (setCover0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15)
  isplitl [HS1]
  · unfold owns; iexists _; isplitr
    swap; · iexact HS1
    ipureintro; exact View.read_writes_of_cover _ _ _ _ _ (setCover1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15)
  isplitl [HS2]
  · unfold owns; iexists _; isplitr
    swap; · iexact HS2
    ipureintro; exact View.read_writes_of_cover _ _ _ _ _ (setCover2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15)
  isplitl [HS3]
  · unfold owns; iexists _; isplitr
    swap; · iexact HS3
    ipureintro; exact View.read_writes_of_cover _ _ _ _ _ (setCover3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15)
  iintro ⟨H0, H1, H2, H3, H4, H5, H6, H7, H8, H9, H10, H11, H12, H13, H14, H15, H16, HS0, HS1, HS2, HS3⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [HS0]; · iexact HS0
  isplitl [HS1]
  · unfold owns; iexists _; isplitr
    swap; · iexact HS1
    ipureintro; rfl
  isplitl [HS2]; · iexact HS2
  iexact HS3

end Cert.Kernel13Ideal.S5

end
-- ==== Proof.S5.Body.lean ====
module

public import proofs.«01_k».proof.Proof.S5.RunA

@[expose] public section

set_option maxRecDepth 16384

noncomputable section

namespace Cert.Kernel13Ideal.S5

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel13Ideal.Gen

variable {F : FTy → Type} [FloatOps F]
variable (V : (c : Dev nD) → (b : Ref sig .tc) → Buf (Elt F) ((c : Thread nD τ).loc b))

theorem cover1_B_16 (c : Dev nD) (i : grid1.Coords) (arg1 : Memref sig .tc .vmem S512x1024 .f32) (harg1 : arg1.IsWhole) (arg2 : Memref sig .tc .vmem S128x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S1x4096 .f32) (harg8 : arg8.IsWhole) (arg9 : Memref sig .tc .vmem S1x4096 .f32) (harg9 : arg9.IsWhole) (arg10 : Memref sig .tc .vmem S4x256x64 .f32) (harg10 : arg10.IsWhole) (arg11 : Memref sig .tc .vmem S4x256x64 .f32) (harg11 : arg11.IsWhole) (arg12 : Memref sig .tc .vmem S4x1024x16 .f32) (harg12 : arg12.IsWhole) (arg13 : Memref sig .tc .vmem S4x1024x16 .f32) (harg13 : arg13.IsWhole) (arg14 : Memref sig .tc .vmem S1x1024 .f32) (harg14 : arg14.IsWhole) (arg15 : Memref sig .tc .vmem S1024x2048 .bf16) (harg15 : arg15.IsWhole) (arg16 : Memref sig .tc .vmem S1x2048 .f32) (harg16 : arg16.IsWhole) (arg17 : Memref sig .tc .vmem S512x1024 .bf16) (harg17 : arg17.IsWhole) (arg18 : Memref sig .tc .vmem S4x256x2048 .bf16) (harg18 : arg18.IsWhole) (arg19 : Memref sig .tc .vmem S8x4096 .f32) (harg19 : arg19.IsWhole) (arg20 : Memref sig .tc .vmem S4x1024x256 .bf16) (harg20 : arg20.IsWhole) (arg21 : Memref sig .tc .vmem S4x1024x256 .bf16) (harg21 : arg21.IsWhole) (hc0 : ¬cond1_0 i)
    (x0 : Vec F S512x1024 .f32) (x1 : Vec F S128x4096 .f32) (x2 : Vec F S128x4096 .f32) (x3 : Vec F S128x4096 .f32) (x4 : Vec F S128x4096 .f32) (x5 : Vec F S1x4096 .f32) (x6 : Vec F S1x4096 .f32) (x7 : Vec F S1x4096 .f32) (x8 : Vec F S1x4096 .f32) (x9 : Vec F S4x256x64 .f32) (x10 : Vec F S4x256x64 .f32) (x11 : Vec F S4x1024x16 .f32) (x12 : Vec F S4x1024x16 .f32) (x13 : Vec F S1x1024 .f32) (x14 : Vec F S1024x2048 .bf16) (x15 : Vec F S1x2048 .f32) (xs0 : Vec F S4x256x2048 .bf16) (xs1 : Vec F S8x4096 .f32) (xs2 : Vec F S4x1024x256 .bf16) (xs3 : Vec F S4x1024x256 .bf16) (y : S512x1024.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 xs0 xs1 xs2 xs3).1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 xs0 xs1 xs2 xs3).1 S512x1024.size (by sl_kernel_rfl) y

/-- What a later point leaves in the output block. -/
def out1_B_16 (c : Dev nD) (i : grid1.Coords) (arg1 : Memref sig .tc .vmem S512x1024 .f32) (harg1 : arg1.IsWhole) (arg2 : Memref sig .tc .vmem S128x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S1x4096 .f32) (harg8 : arg8.IsWhole) (arg9 : Memref sig .tc .vmem S1x4096 .f32) (harg9 : arg9.IsWhole) (arg10 : Memref sig .tc .vmem S4x256x64 .f32) (harg10 : arg10.IsWhole) (arg11 : Memref sig .tc .vmem S4x256x64 .f32) (harg11 : arg11.IsWhole) (arg12 : Memref sig .tc .vmem S4x1024x16 .f32) (harg12 : arg12.IsWhole) (arg13 : Memref sig .tc .vmem S4x1024x16 .f32) (harg13 : arg13.IsWhole) (arg14 : Memref sig .tc .vmem S1x1024 .f32) (harg14 : arg14.IsWhole) (arg15 : Memref sig .tc .vmem S1024x2048 .bf16) (harg15 : arg15.IsWhole) (arg16 : Memref sig .tc .vmem S1x2048 .f32) (harg16 : arg16.IsWhole) (arg17 : Memref sig .tc .vmem S512x1024 .bf16) (harg17 : arg17.IsWhole) (arg18 : Memref sig .tc .vmem S4x256x2048 .bf16) (harg18 : arg18.IsWhole) (arg19 : Memref sig .tc .vmem S8x4096 .f32) (harg19 : arg19.IsWhole) (arg20 : Memref sig .tc .vmem S4x1024x256 .bf16) (harg20 : arg20.IsWhole) (arg21 : Memref sig .tc .vmem S4x1024x256 .bf16) (harg21 : arg21.IsWhole) (hc0 : ¬cond1_0 i)
    (x0 : Vec F S512x1024 .f32) (x1 : Vec F S128x4096 .f32) (x2 : Vec F S128x4096 .f32) (x3 : Vec F S128x4096 .f32) (x4 : Vec F S128x4096 .f32) (x5 : Vec F S1x4096 .f32) (x6 : Vec F S1x4096 .f32) (x7 : Vec F S1x4096 .f32) (x8 : Vec F S1x4096 .f32) (x9 : Vec F S4x256x64 .f32) (x10 : Vec F S4x256x64 .f32) (x11 : Vec F S4x1024x16 .f32) (x12 : Vec F S4x1024x16 .f32) (x13 : Vec F S1x1024 .f32) (x14 : Vec F S1024x2048 .bf16) (x15 : Vec F S1x2048 .f32) (xs0 : Vec F S4x256x2048 .bf16) (xs1 : Vec F S8x4096 .f32) (xs2 : Vec F S4x1024x256 .bf16) (xs3 : Vec F S4x1024x256 .bf16) : Vec F S512x1024 .bf16 :=
  VO1_16.read (Elt F) (VO1_16.writes (Elt F) VO1_16.junk (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 xs0 xs1 xs2 xs3).1)

def sout1_B_0 (c : Dev nD) (i : grid1.Coords) (arg1 : Memref sig .tc .vmem S512x1024 .f32) (harg1 : arg1.IsWhole) (arg2 : Memref sig .tc .vmem S128x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S1x4096 .f32) (harg8 : arg8.IsWhole) (arg9 : Memref sig .tc .vmem S1x4096 .f32) (harg9 : arg9.IsWhole) (arg10 : Memref sig .tc .vmem S4x256x64 .f32) (harg10 : arg10.IsWhole) (arg11 : Memref sig .tc .vmem S4x256x64 .f32) (harg11 : arg11.IsWhole) (arg12 : Memref sig .tc .vmem S4x1024x16 .f32) (harg12 : arg12.IsWhole) (arg13 : Memref sig .tc .vmem S4x1024x16 .f32) (harg13 : arg13.IsWhole) (arg14 : Memref sig .tc .vmem S1x1024 .f32) (harg14 : arg14.IsWhole) (arg15 : Memref sig .tc .vmem S1024x2048 .bf16) (harg15 : arg15.IsWhole) (arg16 : Memref sig .tc .vmem S1x2048 .f32) (harg16 : arg16.IsWhole) (arg17 : Memref sig .tc .vmem S512x1024 .bf16) (harg17 : arg17.IsWhole) (arg18 : Memref sig .tc .vmem S4x256x2048 .bf16) (harg18 : arg18.IsWhole) (arg19 : Memref sig .tc .vmem S8x4096 .f32) (harg19 : arg19.IsWhole) (arg20 : Memref sig .tc .vmem S4x1024x256 .bf16) (harg20 : arg20.IsWhole) (arg21 : Memref sig .tc .vmem S4x1024x256 .bf16) (harg21 : arg21.IsWhole) (hc0 : ¬cond1_0 i)
    (x0 : Vec F S512x1024 .f32) (x1 : Vec F S128x4096 .f32) (x2 : Vec F S128x4096 .f32) (x3 : Vec F S128x4096 .f32) (x4 : Vec F S128x4096 .f32) (x5 : Vec F S1x4096 .f32) (x6 : Vec F S1x4096 .f32) (x7 : Vec F S1x4096 .f32) (x8 : Vec F S1x4096 .f32) (x9 : Vec F S4x256x64 .f32) (x10 : Vec F S4x256x64 .f32) (x11 : Vec F S4x1024x16 .f32) (x12 : Vec F S4x1024x16 .f32) (x13 : Vec F S1x1024 .f32) (x14 : Vec F S1024x2048 .bf16) (x15 : Vec F S1x2048 .f32) (xs0 : Vec F S4x256x2048 .bf16) (xs1 : Vec F S8x4096 .f32) (xs2 : Vec F S4x1024x256 .bf16) (xs3 : Vec F S4x1024x256 .bf16) : Vec F S4x256x2048 .bf16 := xs0

def sout1_B_1 (c : Dev nD) (i : grid1.Coords) (arg1 : Memref sig .tc .vmem S512x1024 .f32) (harg1 : arg1.IsWhole) (arg2 : Memref sig .tc .vmem S128x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S1x4096 .f32) (harg8 : arg8.IsWhole) (arg9 : Memref sig .tc .vmem S1x4096 .f32) (harg9 : arg9.IsWhole) (arg10 : Memref sig .tc .vmem S4x256x64 .f32) (harg10 : arg10.IsWhole) (arg11 : Memref sig .tc .vmem S4x256x64 .f32) (harg11 : arg11.IsWhole) (arg12 : Memref sig .tc .vmem S4x1024x16 .f32) (harg12 : arg12.IsWhole) (arg13 : Memref sig .tc .vmem S4x1024x16 .f32) (harg13 : arg13.IsWhole) (arg14 : Memref sig .tc .vmem S1x1024 .f32) (harg14 : arg14.IsWhole) (arg15 : Memref sig .tc .vmem S1024x2048 .bf16) (harg15 : arg15.IsWhole) (arg16 : Memref sig .tc .vmem S1x2048 .f32) (harg16 : arg16.IsWhole) (arg17 : Memref sig .tc .vmem S512x1024 .bf16) (harg17 : arg17.IsWhole) (arg18 : Memref sig .tc .vmem S4x256x2048 .bf16) (harg18 : arg18.IsWhole) (arg19 : Memref sig .tc .vmem S8x4096 .f32) (harg19 : arg19.IsWhole) (arg20 : Memref sig .tc .vmem S4x1024x256 .bf16) (harg20 : arg20.IsWhole) (arg21 : Memref sig .tc .vmem S4x1024x256 .bf16) (harg21 : arg21.IsWhole) (hc0 : ¬cond1_0 i)
    (x0 : Vec F S512x1024 .f32) (x1 : Vec F S128x4096 .f32) (x2 : Vec F S128x4096 .f32) (x3 : Vec F S128x4096 .f32) (x4 : Vec F S128x4096 .f32) (x5 : Vec F S1x4096 .f32) (x6 : Vec F S1x4096 .f32) (x7 : Vec F S1x4096 .f32) (x8 : Vec F S1x4096 .f32) (x9 : Vec F S4x256x64 .f32) (x10 : Vec F S4x256x64 .f32) (x11 : Vec F S4x1024x16 .f32) (x12 : Vec F S4x1024x16 .f32) (x13 : Vec F S1x1024 .f32) (x14 : Vec F S1024x2048 .bf16) (x15 : Vec F S1x2048 .f32) (xs0 : Vec F S4x256x2048 .bf16) (xs1 : Vec F S8x4096 .f32) (xs2 : Vec F S4x1024x256 .bf16) (xs3 : Vec F S4x1024x256 .bf16) : Vec F S8x4096 .f32 :=
  arg19.view.read (Elt F) (arg19.view.writes (Elt F) (harg19.unread xs1) (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 xs0 xs1 xs2 xs3).2.2.1)

def sout1_B_2 (c : Dev nD) (i : grid1.Coords) (arg1 : Memref sig .tc .vmem S512x1024 .f32) (harg1 : arg1.IsWhole) (arg2 : Memref sig .tc .vmem S128x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S1x4096 .f32) (harg8 : arg8.IsWhole) (arg9 : Memref sig .tc .vmem S1x4096 .f32) (harg9 : arg9.IsWhole) (arg10 : Memref sig .tc .vmem S4x256x64 .f32) (harg10 : arg10.IsWhole) (arg11 : Memref sig .tc .vmem S4x256x64 .f32) (harg11 : arg11.IsWhole) (arg12 : Memref sig .tc .vmem S4x1024x16 .f32) (harg12 : arg12.IsWhole) (arg13 : Memref sig .tc .vmem S4x1024x16 .f32) (harg13 : arg13.IsWhole) (arg14 : Memref sig .tc .vmem S1x1024 .f32) (harg14 : arg14.IsWhole) (arg15 : Memref sig .tc .vmem S1024x2048 .bf16) (harg15 : arg15.IsWhole) (arg16 : Memref sig .tc .vmem S1x2048 .f32) (harg16 : arg16.IsWhole) (arg17 : Memref sig .tc .vmem S512x1024 .bf16) (harg17 : arg17.IsWhole) (arg18 : Memref sig .tc .vmem S4x256x2048 .bf16) (harg18 : arg18.IsWhole) (arg19 : Memref sig .tc .vmem S8x4096 .f32) (harg19 : arg19.IsWhole) (arg20 : Memref sig .tc .vmem S4x1024x256 .bf16) (harg20 : arg20.IsWhole) (arg21 : Memref sig .tc .vmem S4x1024x256 .bf16) (harg21 : arg21.IsWhole) (hc0 : ¬cond1_0 i)
    (x0 : Vec F S512x1024 .f32) (x1 : Vec F S128x4096 .f32) (x2 : Vec F S128x4096 .f32) (x3 : Vec F S128x4096 .f32) (x4 : Vec F S128x4096 .f32) (x5 : Vec F S1x4096 .f32) (x6 : Vec F S1x4096 .f32) (x7 : Vec F S1x4096 .f32) (x8 : Vec F S1x4096 .f32) (x9 : Vec F S4x256x64 .f32) (x10 : Vec F S4x256x64 .f32) (x11 : Vec F S4x1024x16 .f32) (x12 : Vec F S4x1024x16 .f32) (x13 : Vec F S1x1024 .f32) (x14 : Vec F S1024x2048 .bf16) (x15 : Vec F S1x2048 .f32) (xs0 : Vec F S4x256x2048 .bf16) (xs1 : Vec F S8x4096 .f32) (xs2 : Vec F S4x1024x256 .bf16) (xs3 : Vec F S4x1024x256 .bf16) : Vec F S4x1024x256 .bf16 := xs2

def sout1_B_3 (c : Dev nD) (i : grid1.Coords) (arg1 : Memref sig .tc .vmem S512x1024 .f32) (harg1 : arg1.IsWhole) (arg2 : Memref sig .tc .vmem S128x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S1x4096 .f32) (harg8 : arg8.IsWhole) (arg9 : Memref sig .tc .vmem S1x4096 .f32) (harg9 : arg9.IsWhole) (arg10 : Memref sig .tc .vmem S4x256x64 .f32) (harg10 : arg10.IsWhole) (arg11 : Memref sig .tc .vmem S4x256x64 .f32) (harg11 : arg11.IsWhole) (arg12 : Memref sig .tc .vmem S4x1024x16 .f32) (harg12 : arg12.IsWhole) (arg13 : Memref sig .tc .vmem S4x1024x16 .f32) (harg13 : arg13.IsWhole) (arg14 : Memref sig .tc .vmem S1x1024 .f32) (harg14 : arg14.IsWhole) (arg15 : Memref sig .tc .vmem S1024x2048 .bf16) (harg15 : arg15.IsWhole) (arg16 : Memref sig .tc .vmem S1x2048 .f32) (harg16 : arg16.IsWhole) (arg17 : Memref sig .tc .vmem S512x1024 .bf16) (harg17 : arg17.IsWhole) (arg18 : Memref sig .tc .vmem S4x256x2048 .bf16) (harg18 : arg18.IsWhole) (arg19 : Memref sig .tc .vmem S8x4096 .f32) (harg19 : arg19.IsWhole) (arg20 : Memref sig .tc .vmem S4x1024x256 .bf16) (harg20 : arg20.IsWhole) (arg21 : Memref sig .tc .vmem S4x1024x256 .bf16) (harg21 : arg21.IsWhole) (hc0 : ¬cond1_0 i)
    (x0 : Vec F S512x1024 .f32) (x1 : Vec F S128x4096 .f32) (x2 : Vec F S128x4096 .f32) (x3 : Vec F S128x4096 .f32) (x4 : Vec F S128x4096 .f32) (x5 : Vec F S1x4096 .f32) (x6 : Vec F S1x4096 .f32) (x7 : Vec F S1x4096 .f32) (x8 : Vec F S1x4096 .f32) (x9 : Vec F S4x256x64 .f32) (x10 : Vec F S4x256x64 .f32) (x11 : Vec F S4x1024x16 .f32) (x12 : Vec F S4x1024x16 .f32) (x13 : Vec F S1x1024 .f32) (x14 : Vec F S1024x2048 .bf16) (x15 : Vec F S1x2048 .f32) (xs0 : Vec F S4x256x2048 .bf16) (xs1 : Vec F S8x4096 .f32) (xs2 : Vec F S4x1024x256 .bf16) (xs3 : Vec F S4x1024x256 .bf16) : Vec F S4x1024x256 .bf16 := xs3

/-- What the first point leaves in the output block. -/
def out1_A_16 (c : Dev nD) (i : grid1.Coords) (arg1 : Memref sig .tc .vmem S512x1024 .f32) (harg1 : arg1.IsWhole) (arg2 : Memref sig .tc .vmem S128x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S1x4096 .f32) (harg8 : arg8.IsWhole) (arg9 : Memref sig .tc .vmem S1x4096 .f32) (harg9 : arg9.IsWhole) (arg10 : Memref sig .tc .vmem S4x256x64 .f32) (harg10 : arg10.IsWhole) (arg11 : Memref sig .tc .vmem S4x256x64 .f32) (harg11 : arg11.IsWhole) (arg12 : Memref sig .tc .vmem S4x1024x16 .f32) (harg12 : arg12.IsWhole) (arg13 : Memref sig .tc .vmem S4x1024x16 .f32) (harg13 : arg13.IsWhole) (arg14 : Memref sig .tc .vmem S1x1024 .f32) (harg14 : arg14.IsWhole) (arg15 : Memref sig .tc .vmem S1024x2048 .bf16) (harg15 : arg15.IsWhole) (arg16 : Memref sig .tc .vmem S1x2048 .f32) (harg16 : arg16.IsWhole) (arg17 : Memref sig .tc .vmem S512x1024 .bf16) (harg17 : arg17.IsWhole) (arg18 : Memref sig .tc .vmem S4x256x2048 .bf16) (harg18 : arg18.IsWhole) (arg19 : Memref sig .tc .vmem S8x4096 .f32) (harg19 : arg19.IsWhole) (arg20 : Memref sig .tc .vmem S4x1024x256 .bf16) (harg20 : arg20.IsWhole) (arg21 : Memref sig .tc .vmem S4x1024x256 .bf16) (harg21 : arg21.IsWhole) (hc0 : cond1_0 i)
    (x0 : Vec F S512x1024 .f32) (x1 : Vec F S128x4096 .f32) (x2 : Vec F S128x4096 .f32) (x3 : Vec F S128x4096 .f32) (x4 : Vec F S128x4096 .f32) (x5 : Vec F S1x4096 .f32) (x6 : Vec F S1x4096 .f32) (x7 : Vec F S1x4096 .f32) (x8 : Vec F S1x4096 .f32) (x9 : Vec F S4x256x64 .f32) (x10 : Vec F S4x256x64 .f32) (x11 : Vec F S4x1024x16 .f32) (x12 : Vec F S4x1024x16 .f32) (x13 : Vec F S1x1024 .f32) (x14 : Vec F S1024x2048 .bf16) (x15 : Vec F S1x2048 .f32) : Vec F S512x1024 .bf16 :=
  out1_B_16 c later arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 later_not x0 x1 x2 x3 x4 x5 x6 x7 x8 x9 x10 x11 x12 x13 x14 x15 (setS0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15) (setS1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15) (setS2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15) (setS3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15)
def sout1_A_0 (c : Dev nD) (i : grid1.Coords) (arg1 : Memref sig .tc .vmem S512x1024 .f32) (harg1 : arg1.IsWhole) (arg2 : Memref sig .tc .vmem S128x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S1x4096 .f32) (harg8 : arg8.IsWhole) (arg9 : Memref sig .tc .vmem S1x4096 .f32) (harg9 : arg9.IsWhole) (arg10 : Memref sig .tc .vmem S4x256x64 .f32) (harg10 : arg10.IsWhole) (arg11 : Memref sig .tc .vmem S4x256x64 .f32) (harg11 : arg11.IsWhole) (arg12 : Memref sig .tc .vmem S4x1024x16 .f32) (harg12 : arg12.IsWhole) (arg13 : Memref sig .tc .vmem S4x1024x16 .f32) (harg13 : arg13.IsWhole) (arg14 : Memref sig .tc .vmem S1x1024 .f32) (harg14 : arg14.IsWhole) (arg15 : Memref sig .tc .vmem S1024x2048 .bf16) (harg15 : arg15.IsWhole) (arg16 : Memref sig .tc .vmem S1x2048 .f32) (harg16 : arg16.IsWhole) (arg17 : Memref sig .tc .vmem S512x1024 .bf16) (harg17 : arg17.IsWhole) (arg18 : Memref sig .tc .vmem S4x256x2048 .bf16) (harg18 : arg18.IsWhole) (arg19 : Memref sig .tc .vmem S8x4096 .f32) (harg19 : arg19.IsWhole) (arg20 : Memref sig .tc .vmem S4x1024x256 .bf16) (harg20 : arg20.IsWhole) (arg21 : Memref sig .tc .vmem S4x1024x256 .bf16) (harg21 : arg21.IsWhole) (hc0 : cond1_0 i)
    (x0 : Vec F S512x1024 .f32) (x1 : Vec F S128x4096 .f32) (x2 : Vec F S128x4096 .f32) (x3 : Vec F S128x4096 .f32) (x4 : Vec F S128x4096 .f32) (x5 : Vec F S1x4096 .f32) (x6 : Vec F S1x4096 .f32) (x7 : Vec F S1x4096 .f32) (x8 : Vec F S1x4096 .f32) (x9 : Vec F S4x256x64 .f32) (x10 : Vec F S4x256x64 .f32) (x11 : Vec F S4x1024x16 .f32) (x12 : Vec F S4x1024x16 .f32) (x13 : Vec F S1x1024 .f32) (x14 : Vec F S1024x2048 .bf16) (x15 : Vec F S1x2048 .f32) : Vec F S4x256x2048 .bf16 := setS0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15
def sout1_A_1 (c : Dev nD) (i : grid1.Coords) (arg1 : Memref sig .tc .vmem S512x1024 .f32) (harg1 : arg1.IsWhole) (arg2 : Memref sig .tc .vmem S128x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S1x4096 .f32) (harg8 : arg8.IsWhole) (arg9 : Memref sig .tc .vmem S1x4096 .f32) (harg9 : arg9.IsWhole) (arg10 : Memref sig .tc .vmem S4x256x64 .f32) (harg10 : arg10.IsWhole) (arg11 : Memref sig .tc .vmem S4x256x64 .f32) (harg11 : arg11.IsWhole) (arg12 : Memref sig .tc .vmem S4x1024x16 .f32) (harg12 : arg12.IsWhole) (arg13 : Memref sig .tc .vmem S4x1024x16 .f32) (harg13 : arg13.IsWhole) (arg14 : Memref sig .tc .vmem S1x1024 .f32) (harg14 : arg14.IsWhole) (arg15 : Memref sig .tc .vmem S1024x2048 .bf16) (harg15 : arg15.IsWhole) (arg16 : Memref sig .tc .vmem S1x2048 .f32) (harg16 : arg16.IsWhole) (arg17 : Memref sig .tc .vmem S512x1024 .bf16) (harg17 : arg17.IsWhole) (arg18 : Memref sig .tc .vmem S4x256x2048 .bf16) (harg18 : arg18.IsWhole) (arg19 : Memref sig .tc .vmem S8x4096 .f32) (harg19 : arg19.IsWhole) (arg20 : Memref sig .tc .vmem S4x1024x256 .bf16) (harg20 : arg20.IsWhole) (arg21 : Memref sig .tc .vmem S4x1024x256 .bf16) (harg21 : arg21.IsWhole) (hc0 : cond1_0 i)
    (x0 : Vec F S512x1024 .f32) (x1 : Vec F S128x4096 .f32) (x2 : Vec F S128x4096 .f32) (x3 : Vec F S128x4096 .f32) (x4 : Vec F S128x4096 .f32) (x5 : Vec F S1x4096 .f32) (x6 : Vec F S1x4096 .f32) (x7 : Vec F S1x4096 .f32) (x8 : Vec F S1x4096 .f32) (x9 : Vec F S4x256x64 .f32) (x10 : Vec F S4x256x64 .f32) (x11 : Vec F S4x1024x16 .f32) (x12 : Vec F S4x1024x16 .f32) (x13 : Vec F S1x1024 .f32) (x14 : Vec F S1024x2048 .bf16) (x15 : Vec F S1x2048 .f32) : Vec F S8x4096 .f32 :=
  sout1_B_1 c later arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 later_not x0 x1 x2 x3 x4 x5 x6 x7 x8 x9 x10 x11 x12 x13 x14 x15 (setS0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15) (setS1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15) (setS2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15) (setS3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15)
def sout1_A_2 (c : Dev nD) (i : grid1.Coords) (arg1 : Memref sig .tc .vmem S512x1024 .f32) (harg1 : arg1.IsWhole) (arg2 : Memref sig .tc .vmem S128x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S1x4096 .f32) (harg8 : arg8.IsWhole) (arg9 : Memref sig .tc .vmem S1x4096 .f32) (harg9 : arg9.IsWhole) (arg10 : Memref sig .tc .vmem S4x256x64 .f32) (harg10 : arg10.IsWhole) (arg11 : Memref sig .tc .vmem S4x256x64 .f32) (harg11 : arg11.IsWhole) (arg12 : Memref sig .tc .vmem S4x1024x16 .f32) (harg12 : arg12.IsWhole) (arg13 : Memref sig .tc .vmem S4x1024x16 .f32) (harg13 : arg13.IsWhole) (arg14 : Memref sig .tc .vmem S1x1024 .f32) (harg14 : arg14.IsWhole) (arg15 : Memref sig .tc .vmem S1024x2048 .bf16) (harg15 : arg15.IsWhole) (arg16 : Memref sig .tc .vmem S1x2048 .f32) (harg16 : arg16.IsWhole) (arg17 : Memref sig .tc .vmem S512x1024 .bf16) (harg17 : arg17.IsWhole) (arg18 : Memref sig .tc .vmem S4x256x2048 .bf16) (harg18 : arg18.IsWhole) (arg19 : Memref sig .tc .vmem S8x4096 .f32) (harg19 : arg19.IsWhole) (arg20 : Memref sig .tc .vmem S4x1024x256 .bf16) (harg20 : arg20.IsWhole) (arg21 : Memref sig .tc .vmem S4x1024x256 .bf16) (harg21 : arg21.IsWhole) (hc0 : cond1_0 i)
    (x0 : Vec F S512x1024 .f32) (x1 : Vec F S128x4096 .f32) (x2 : Vec F S128x4096 .f32) (x3 : Vec F S128x4096 .f32) (x4 : Vec F S128x4096 .f32) (x5 : Vec F S1x4096 .f32) (x6 : Vec F S1x4096 .f32) (x7 : Vec F S1x4096 .f32) (x8 : Vec F S1x4096 .f32) (x9 : Vec F S4x256x64 .f32) (x10 : Vec F S4x256x64 .f32) (x11 : Vec F S4x1024x16 .f32) (x12 : Vec F S4x1024x16 .f32) (x13 : Vec F S1x1024 .f32) (x14 : Vec F S1024x2048 .bf16) (x15 : Vec F S1x2048 .f32) : Vec F S4x1024x256 .bf16 := setS2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15
def sout1_A_3 (c : Dev nD) (i : grid1.Coords) (arg1 : Memref sig .tc .vmem S512x1024 .f32) (harg1 : arg1.IsWhole) (arg2 : Memref sig .tc .vmem S128x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S1x4096 .f32) (harg8 : arg8.IsWhole) (arg9 : Memref sig .tc .vmem S1x4096 .f32) (harg9 : arg9.IsWhole) (arg10 : Memref sig .tc .vmem S4x256x64 .f32) (harg10 : arg10.IsWhole) (arg11 : Memref sig .tc .vmem S4x256x64 .f32) (harg11 : arg11.IsWhole) (arg12 : Memref sig .tc .vmem S4x1024x16 .f32) (harg12 : arg12.IsWhole) (arg13 : Memref sig .tc .vmem S4x1024x16 .f32) (harg13 : arg13.IsWhole) (arg14 : Memref sig .tc .vmem S1x1024 .f32) (harg14 : arg14.IsWhole) (arg15 : Memref sig .tc .vmem S1024x2048 .bf16) (harg15 : arg15.IsWhole) (arg16 : Memref sig .tc .vmem S1x2048 .f32) (harg16 : arg16.IsWhole) (arg17 : Memref sig .tc .vmem S512x1024 .bf16) (harg17 : arg17.IsWhole) (arg18 : Memref sig .tc .vmem S4x256x2048 .bf16) (harg18 : arg18.IsWhole) (arg19 : Memref sig .tc .vmem S8x4096 .f32) (harg19 : arg19.IsWhole) (arg20 : Memref sig .tc .vmem S4x1024x256 .bf16) (harg20 : arg20.IsWhole) (arg21 : Memref sig .tc .vmem S4x1024x256 .bf16) (harg21 : arg21.IsWhole) (hc0 : cond1_0 i)
    (x0 : Vec F S512x1024 .f32) (x1 : Vec F S128x4096 .f32) (x2 : Vec F S128x4096 .f32) (x3 : Vec F S128x4096 .f32) (x4 : Vec F S128x4096 .f32) (x5 : Vec F S1x4096 .f32) (x6 : Vec F S1x4096 .f32) (x7 : Vec F S1x4096 .f32) (x8 : Vec F S1x4096 .f32) (x9 : Vec F S4x256x64 .f32) (x10 : Vec F S4x256x64 .f32) (x11 : Vec F S4x1024x16 .f32) (x12 : Vec F S4x1024x16 .f32) (x13 : Vec F S1x1024 .f32) (x14 : Vec F S1024x2048 .bf16) (x15 : Vec F S1x2048 .f32) : Vec F S4x1024x256 .bf16 := setS3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15

/-- What the second call's output block and its four scratch buffers hold after point `n`. -/
def outsAt1 (c : Dev nD) : (n : ℕ) → n < cfg1.N → Vec F S512x1024 .bf16 × Vec F S4x256x2048 .bf16 × Vec F S8x4096 .f32 × Vec F S4x1024x256 .bf16 × Vec F S4x1024x256 .bf16
  | 0, hn => (out1_A_16 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) (ms1_12 ⟨0, hn⟩) (hs1_12 ⟨0, hn⟩) (ms1_13 ⟨0, hn⟩) (hs1_13 ⟨0, hn⟩) (ms1_14 ⟨0, hn⟩) (hs1_14 ⟨0, hn⟩) (ms1_15 ⟨0, hn⟩) (hs1_15 ⟨0, hn⟩) (ms1_16 ⟨0, hn⟩) (hs1_16 ⟨0, hn⟩) scM1_0 (Memref.isWhole_whole _) scM1_1 (Memref.isWhole_whole _) scM1_2 (Memref.isWhole_whole _) scM1_3 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩) (iblk1 V c 9 ⟨0, hn⟩) (iblk1 V c 10 ⟨0, hn⟩) (iblk1 V c 11 ⟨0, hn⟩) (iblk1 V c 12 ⟨0, hn⟩) (iblk1 V c 13 ⟨0, hn⟩) (iblk1 V c 14 ⟨0, hn⟩) (iblk1 V c 15 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) (ms1_12 ⟨0, hn⟩) (hs1_12 ⟨0, hn⟩) (ms1_13 ⟨0, hn⟩) (hs1_13 ⟨0, hn⟩) (ms1_14 ⟨0, hn⟩) (hs1_14 ⟨0, hn⟩) (ms1_15 ⟨0, hn⟩) (hs1_15 ⟨0, hn⟩) (ms1_16 ⟨0, hn⟩) (hs1_16 ⟨0, hn⟩) scM1_0 (Memref.isWhole_whole _) scM1_1 (Memref.isWhole_whole _) scM1_2 (Memref.isWhole_whole _) scM1_3 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩) (iblk1 V c 9 ⟨0, hn⟩) (iblk1 V c 10 ⟨0, hn⟩) (iblk1 V c 11 ⟨0, hn⟩) (iblk1 V c 12 ⟨0, hn⟩) (iblk1 V c 13 ⟨0, hn⟩) (iblk1 V c 14 ⟨0, hn⟩) (iblk1 V c 15 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) (ms1_12 ⟨0, hn⟩) (hs1_12 ⟨0, hn⟩) (ms1_13 ⟨0, hn⟩) (hs1_13 ⟨0, hn⟩) (ms1_14 ⟨0, hn⟩) (hs1_14 ⟨0, hn⟩) (ms1_15 ⟨0, hn⟩) (hs1_15 ⟨0, hn⟩) (ms1_16 ⟨0, hn⟩) (hs1_16 ⟨0, hn⟩) scM1_0 (Memref.isWhole_whole _) scM1_1 (Memref.isWhole_whole _) scM1_2 (Memref.isWhole_whole _) scM1_3 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩) (iblk1 V c 9 ⟨0, hn⟩) (iblk1 V c 10 ⟨0, hn⟩) (iblk1 V c 11 ⟨0, hn⟩) (iblk1 V c 12 ⟨0, hn⟩) (iblk1 V c 13 ⟨0, hn⟩) (iblk1 V c 14 ⟨0, hn⟩) (iblk1 V c 15 ⟨0, hn⟩), sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) (ms1_12 ⟨0, hn⟩) (hs1_12 ⟨0, hn⟩) (ms1_13 ⟨0, hn⟩) (hs1_13 ⟨0, hn⟩) (ms1_14 ⟨0, hn⟩) (hs1_14 ⟨0, hn⟩) (ms1_15 ⟨0, hn⟩) (hs1_15 ⟨0, hn⟩) (ms1_16 ⟨0, hn⟩) (hs1_16 ⟨0, hn⟩) scM1_0 (Memref.isWhole_whole _) scM1_1 (Memref.isWhole_whole _) scM1_2 (Memref.isWhole_whole _) scM1_3 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩) (iblk1 V c 9 ⟨0, hn⟩) (iblk1 V c 10 ⟨0, hn⟩) (iblk1 V c 11 ⟨0, hn⟩) (iblk1 V c 12 ⟨0, hn⟩) (iblk1 V c 13 ⟨0, hn⟩) (iblk1 V c 14 ⟨0, hn⟩) (iblk1 V c 15 ⟨0, hn⟩), sout1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) (ms1_12 ⟨0, hn⟩) (hs1_12 ⟨0, hn⟩) (ms1_13 ⟨0, hn⟩) (hs1_13 ⟨0, hn⟩) (ms1_14 ⟨0, hn⟩) (hs1_14 ⟨0, hn⟩) (ms1_15 ⟨0, hn⟩) (hs1_15 ⟨0, hn⟩) (ms1_16 ⟨0, hn⟩) (hs1_16 ⟨0, hn⟩) scM1_0 (Memref.isWhole_whole _) scM1_1 (Memref.isWhole_whole _) scM1_2 (Memref.isWhole_whole _) scM1_3 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩) (iblk1 V c 9 ⟨0, hn⟩) (iblk1 V c 10 ⟨0, hn⟩) (iblk1 V c 11 ⟨0, hn⟩) (iblk1 V c 12 ⟨0, hn⟩) (iblk1 V c 13 ⟨0, hn⟩) (iblk1 V c 14 ⟨0, hn⟩) (iblk1 V c 15 ⟨0, hn⟩))
  | n + 1, hn =>
    if h0 : (n + 1) % 16 = 0 then
      (out1_A_16 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) (ms1_14 ⟨n + 1, hn⟩) (hs1_14 ⟨n + 1, hn⟩) (ms1_15 ⟨n + 1, hn⟩) (hs1_15 ⟨n + 1, hn⟩) (ms1_16 ⟨n + 1, hn⟩) (hs1_16 ⟨n + 1, hn⟩) scM1_0 (Memref.isWhole_whole _) scM1_1 (Memref.isWhole_whole _) scM1_2 (Memref.isWhole_whole _) scM1_3 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (iblk1 V c 10 ⟨n + 1, hn⟩) (iblk1 V c 11 ⟨n + 1, hn⟩) (iblk1 V c 12 ⟨n + 1, hn⟩) (iblk1 V c 13 ⟨n + 1, hn⟩) (iblk1 V c 14 ⟨n + 1, hn⟩) (iblk1 V c 15 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) (ms1_14 ⟨n + 1, hn⟩) (hs1_14 ⟨n + 1, hn⟩) (ms1_15 ⟨n + 1, hn⟩) (hs1_15 ⟨n + 1, hn⟩) (ms1_16 ⟨n + 1, hn⟩) (hs1_16 ⟨n + 1, hn⟩) scM1_0 (Memref.isWhole_whole _) scM1_1 (Memref.isWhole_whole _) scM1_2 (Memref.isWhole_whole _) scM1_3 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (iblk1 V c 10 ⟨n + 1, hn⟩) (iblk1 V c 11 ⟨n + 1, hn⟩) (iblk1 V c 12 ⟨n + 1, hn⟩) (iblk1 V c 13 ⟨n + 1, hn⟩) (iblk1 V c 14 ⟨n + 1, hn⟩) (iblk1 V c 15 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) (ms1_14 ⟨n + 1, hn⟩) (hs1_14 ⟨n + 1, hn⟩) (ms1_15 ⟨n + 1, hn⟩) (hs1_15 ⟨n + 1, hn⟩) (ms1_16 ⟨n + 1, hn⟩) (hs1_16 ⟨n + 1, hn⟩) scM1_0 (Memref.isWhole_whole _) scM1_1 (Memref.isWhole_whole _) scM1_2 (Memref.isWhole_whole _) scM1_3 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (iblk1 V c 10 ⟨n + 1, hn⟩) (iblk1 V c 11 ⟨n + 1, hn⟩) (iblk1 V c 12 ⟨n + 1, hn⟩) (iblk1 V c 13 ⟨n + 1, hn⟩) (iblk1 V c 14 ⟨n + 1, hn⟩) (iblk1 V c 15 ⟨n + 1, hn⟩), sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) (ms1_14 ⟨n + 1, hn⟩) (hs1_14 ⟨n + 1, hn⟩) (ms1_15 ⟨n + 1, hn⟩) (hs1_15 ⟨n + 1, hn⟩) (ms1_16 ⟨n + 1, hn⟩) (hs1_16 ⟨n + 1, hn⟩) scM1_0 (Memref.isWhole_whole _) scM1_1 (Memref.isWhole_whole _) scM1_2 (Memref.isWhole_whole _) scM1_3 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (iblk1 V c 10 ⟨n + 1, hn⟩) (iblk1 V c 11 ⟨n + 1, hn⟩) (iblk1 V c 12 ⟨n + 1, hn⟩) (iblk1 V c 13 ⟨n + 1, hn⟩) (iblk1 V c 14 ⟨n + 1, hn⟩) (iblk1 V c 15 ⟨n + 1, hn⟩), sout1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) (ms1_14 ⟨n + 1, hn⟩) (hs1_14 ⟨n + 1, hn⟩) (ms1_15 ⟨n + 1, hn⟩) (hs1_15 ⟨n + 1, hn⟩) (ms1_16 ⟨n + 1, hn⟩) (hs1_16 ⟨n + 1, hn⟩) scM1_0 (Memref.isWhole_whole _) scM1_1 (Memref.isWhole_whole _) scM1_2 (Memref.isWhole_whole _) scM1_3 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (iblk1 V c 10 ⟨n + 1, hn⟩) (iblk1 V c 11 ⟨n + 1, hn⟩) (iblk1 V c 12 ⟨n + 1, hn⟩) (iblk1 V c 13 ⟨n + 1, hn⟩) (iblk1 V c 14 ⟨n + 1, hn⟩) (iblk1 V c 15 ⟨n + 1, hn⟩))
    else
      (out1_B_16 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) (ms1_14 ⟨n + 1, hn⟩) (hs1_14 ⟨n + 1, hn⟩) (ms1_15 ⟨n + 1, hn⟩) (hs1_15 ⟨n + 1, hn⟩) (ms1_16 ⟨n + 1, hn⟩) (hs1_16 ⟨n + 1, hn⟩) scM1_0 (Memref.isWhole_whole _) scM1_1 (Memref.isWhole_whole _) scM1_2 (Memref.isWhole_whole _) scM1_3 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (iblk1 V c 10 ⟨n + 1, hn⟩) (iblk1 V c 11 ⟨n + 1, hn⟩) (iblk1 V c 12 ⟨n + 1, hn⟩) (iblk1 V c 13 ⟨n + 1, hn⟩) (iblk1 V c 14 ⟨n + 1, hn⟩) (iblk1 V c 15 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) (ms1_14 ⟨n + 1, hn⟩) (hs1_14 ⟨n + 1, hn⟩) (ms1_15 ⟨n + 1, hn⟩) (hs1_15 ⟨n + 1, hn⟩) (ms1_16 ⟨n + 1, hn⟩) (hs1_16 ⟨n + 1, hn⟩) scM1_0 (Memref.isWhole_whole _) scM1_1 (Memref.isWhole_whole _) scM1_2 (Memref.isWhole_whole _) scM1_3 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (iblk1 V c 10 ⟨n + 1, hn⟩) (iblk1 V c 11 ⟨n + 1, hn⟩) (iblk1 V c 12 ⟨n + 1, hn⟩) (iblk1 V c 13 ⟨n + 1, hn⟩) (iblk1 V c 14 ⟨n + 1, hn⟩) (iblk1 V c 15 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) (ms1_14 ⟨n + 1, hn⟩) (hs1_14 ⟨n + 1, hn⟩) (ms1_15 ⟨n + 1, hn⟩) (hs1_15 ⟨n + 1, hn⟩) (ms1_16 ⟨n + 1, hn⟩) (hs1_16 ⟨n + 1, hn⟩) scM1_0 (Memref.isWhole_whole _) scM1_1 (Memref.isWhole_whole _) scM1_2 (Memref.isWhole_whole _) scM1_3 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (iblk1 V c 10 ⟨n + 1, hn⟩) (iblk1 V c 11 ⟨n + 1, hn⟩) (iblk1 V c 12 ⟨n + 1, hn⟩) (iblk1 V c 13 ⟨n + 1, hn⟩) (iblk1 V c 14 ⟨n + 1, hn⟩) (iblk1 V c 15 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2, sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) (ms1_14 ⟨n + 1, hn⟩) (hs1_14 ⟨n + 1, hn⟩) (ms1_15 ⟨n + 1, hn⟩) (hs1_15 ⟨n + 1, hn⟩) (ms1_16 ⟨n + 1, hn⟩) (hs1_16 ⟨n + 1, hn⟩) scM1_0 (Memref.isWhole_whole _) scM1_1 (Memref.isWhole_whole _) scM1_2 (Memref.isWhole_whole _) scM1_3 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (iblk1 V c 10 ⟨n + 1, hn⟩) (iblk1 V c 11 ⟨n + 1, hn⟩) (iblk1 V c 12 ⟨n + 1, hn⟩) (iblk1 V c 13 ⟨n + 1, hn⟩) (iblk1 V c 14 ⟨n + 1, hn⟩) (iblk1 V c 15 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2, sout1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) (ms1_14 ⟨n + 1, hn⟩) (hs1_14 ⟨n + 1, hn⟩) (ms1_15 ⟨n + 1, hn⟩) (hs1_15 ⟨n + 1, hn⟩) (ms1_16 ⟨n + 1, hn⟩) (hs1_16 ⟨n + 1, hn⟩) scM1_0 (Memref.isWhole_whole _) scM1_1 (Memref.isWhole_whole _) scM1_2 (Memref.isWhole_whole _) scM1_3 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (iblk1 V c 10 ⟨n + 1, hn⟩) (iblk1 V c 11 ⟨n + 1, hn⟩) (iblk1 V c 12 ⟨n + 1, hn⟩) (iblk1 V c 13 ⟨n + 1, hn⟩) (iblk1 V c 14 ⟨n + 1, hn⟩) (iblk1 V c 15 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2)

theorem outsAt1_A (c : Dev nD) (t : Fin cfg1.N) (h0 : t.val % 16 = 0) :
    outsAt1 V c t.val t.isLt = (out1_A_16 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) scM1_0 (Memref.isWhole_whole _) scM1_1 (Memref.isWhole_whole _) scM1_2 (Memref.isWhole_whole _) scM1_3 (Memref.isWhole_whole _) ((hcond1_0 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) scM1_0 (Memref.isWhole_whole _) scM1_1 (Memref.isWhole_whole _) scM1_2 (Memref.isWhole_whole _) scM1_3 (Memref.isWhole_whole _) ((hcond1_0 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t), sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) scM1_0 (Memref.isWhole_whole _) scM1_1 (Memref.isWhole_whole _) scM1_2 (Memref.isWhole_whole _) scM1_3 (Memref.isWhole_whole _) ((hcond1_0 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t), sout1_A_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) scM1_0 (Memref.isWhole_whole _) scM1_1 (Memref.isWhole_whole _) scM1_2 (Memref.isWhole_whole _) scM1_3 (Memref.isWhole_whole _) ((hcond1_0 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t), sout1_A_3 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) scM1_0 (Memref.isWhole_whole _) scM1_1 (Memref.isWhole_whole _) scM1_2 (Memref.isWhole_whole _) scM1_3 (Memref.isWhole_whole _) ((hcond1_0 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t)) := by
  obtain ⟨n, hn⟩ := t
  cases n with
  | zero => exact rfl
  | succ n => exact (dif_pos h0).trans rfl

theorem outsAt1_B (c : Dev nD) (t : Fin cfg1.N) (h0 : ¬t.val % 16 = 0) :
    outsAt1 V c t.val t.isLt = (out1_B_16 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) scM1_0 (Memref.isWhole_whole _) scM1_1 (Memref.isWhole_whole _) scM1_2 (Memref.isWhole_whole _) scM1_3 (Memref.isWhole_whole _) (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) scM1_0 (Memref.isWhole_whole _) scM1_1 (Memref.isWhole_whole _) scM1_2 (Memref.isWhole_whole _) scM1_3 (Memref.isWhole_whole _) (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) scM1_0 (Memref.isWhole_whole _) scM1_1 (Memref.isWhole_whole _) scM1_2 (Memref.isWhole_whole _) scM1_3 (Memref.isWhole_whole _) (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_B_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) scM1_0 (Memref.isWhole_whole _) scM1_1 (Memref.isWhole_whole _) scM1_2 (Memref.isWhole_whole _) scM1_3 (Memref.isWhole_whole _) (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_B_3 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) scM1_0 (Memref.isWhole_whole _) scM1_1 (Memref.isWhole_whole _) scM1_2 (Memref.isWhole_whole _) scM1_3 (Memref.isWhole_whole _) (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans rfl

/-- The invariant between points: the scratch holds what the point before left, the generator is at hand. -/
def PhiS (c : Dev nD) : (n : ℕ) → n ≤ cfg1.N → sProp (MM F)
  | 0, _ => PhiStart c
  | n + 1, hn => iprop(iprop(owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2.1) ∗ owns (c : Thread nD τ) scM1_3 fullShare ((outsAt1 V c n hn).2.2.2.2)) ∗ Side c)

theorem PhiS_zero (c : Dev nD) (n : ℕ) (h : n ≤ cfg1.N) (hz : n = 0) : PhiS V c n h = PhiStart c := by
  subst hz; rfl

theorem PhiS_succ (c : Dev nD) (n : ℕ) (hn : n < cfg1.N) :
    PhiS V c (n + 1) hn = iprop(iprop(owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2.1) ∗ owns (c : Thread nD τ) scM1_3 fullShare ((outsAt1 V c n hn).2.2.2.2)) ∗ Side c) := rfl

theorem PhiS_pos (c : Dev nD) (n : ℕ) (h : n ≤ cfg1.N) (hz : n ≠ 0) :
    PhiS V c n h = iprop(iprop(owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2.1) ∗ owns (c : Thread nD τ) scM1_3 fullShare ((outsAt1 V c (n - 1) (by omega)).2.2.2.2)) ∗ Side c) := by
  cases n with
  | zero => exact absurd rfl hz
  | succ n => rfl

/-- The second call's proof data at the entry contents `V`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => iblk1 V c 14 t
    | ⟨15, _⟩ => iblk1 V c 15 t
    | ⟨16, _⟩ => (outsAt1 V c t.val t.isLt).1
    | ⟨_ + 17, h⟩ => absurd h (Nat.not_lt.2 (Nat.le_add_left _ _))
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; exact Pipeline.Dat.Φ_castSucc (PhiS V c) t

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = iblk1 V c 13 t := by dsimp only [dat1]
theorem after1_14 (c : Dev nD) (t : Fin cfg1.N) : (dat1 V c).after 14 t = iblk1 V c 14 t := by dsimp only [dat1]
theorem after1_15 (c : Dev nD) (t : Fin cfg1.N) : (dat1 V c).after 15 t = iblk1 V c 15 t := by dsimp only [dat1]
theorem after1_16 (c : Dev nD) (t : Fin cfg1.N) : (dat1 V c).after 16 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d
theorem before1_12 (c : Dev nD) (t : Fin cfg1.N) (d) : (dat1 V c).before 12 t d = iblk1 V c 12 t :=
  before1_12_of V (dat1 V c) (A_eq1 V c 12) (after1_12 V c) t d
theorem before1_13 (c : Dev nD) (t : Fin cfg1.N) (d) : (dat1 V c).before 13 t d = iblk1 V c 13 t :=
  before1_13_of V (dat1 V c) (A_eq1 V c 13) (after1_13 V c) t d
theorem before1_14 (c : Dev nD) (t : Fin cfg1.N) (d) : (dat1 V c).before 14 t d = iblk1 V c 14 t :=
  before1_14_of V (dat1 V c) (A_eq1 V c 14) (after1_14 V c) t d
theorem before1_15 (c : Dev nD) (t : Fin cfg1.N) (d) : (dat1 V c).before 15 t d = iblk1 V c 15 t :=
  before1_15_of V (dat1 V c) (A_eq1 V c 15) (after1_15 V c) t d

def bodyPre1 (c : Dev nD) (t : Fin cfg1.N) : sProp (MM F) :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d))
    ∗ (∃ d, owns (c : Thread nD τ) (ms1_12 t) fullShare ((dat1 V c).before 12 t d))
    ∗ (∃ d, owns (c : Thread nD τ) (ms1_13 t) fullShare ((dat1 V c).before 13 t d))
    ∗ (∃ d, owns (c : Thread nD τ) (ms1_14 t) fullShare ((dat1 V c).before 14 t d))
    ∗ (∃ d, owns (c : Thread nD τ) (ms1_15 t) fullShare ((dat1 V c).before 15 t d))
    ∗ (∃ d, owns (c : Thread nD τ) (ms1_16 t) fullShare ((dat1 V c).before 16 t d)))

def bodyPost1 (c : Dev nD) (t : Fin cfg1.N) : sProp (MM F) :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t)
    ∗ owns (c : Thread nD τ) (ms1_9 t) fullShare ((dat1 V c).after 9 t)
    ∗ owns (c : Thread nD τ) (ms1_10 t) fullShare ((dat1 V c).after 10 t)
    ∗ owns (c : Thread nD τ) (ms1_11 t) fullShare ((dat1 V c).after 11 t)
    ∗ owns (c : Thread nD τ) (ms1_12 t) fullShare ((dat1 V c).after 12 t)
    ∗ owns (c : Thread nD τ) (ms1_13 t) fullShare ((dat1 V c).after 13 t)
    ∗ owns (c : Thread nD τ) (ms1_14 t) fullShare ((dat1 V c).after 14 t)
    ∗ owns (c : Thread nD τ) (ms1_15 t) fullShare ((dat1 V c).after 15 t)
    ∗ owns (c : Thread nD τ) (ms1_16 t) fullShare ((dat1 V c).after 16 t))

set_option maxHeartbeats 16000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12, before1_13, before1_14, before1_15]
  rw [show (dat1 V c).owesAt () t.succ = (dat1 V c).owesAt () t.castSucc from rfl,
    after1_0, after1_1, after1_2, after1_3, after1_4, after1_5, after1_6, after1_7, after1_8, after1_9, after1_10, after1_11, after1_12, after1_13, after1_14, after1_15, after1_16]
  rw [show (dat1 V c).Φ t.succ = PhiS V c (t.val + 1) t.isLt from rfl, PhiS_succ]
  have hN : t.val < 16 := lt_of_lt_of_eq t.isLt (show cfg1.N = 16 from N_1)
  by_cases h0 : t.val % 16 = 0
  · by_cases hz : t.val = 0
    · rw [PhiS_castSucc V c t, PhiS_zero V c _ _ hz, PhiStart]
      rw [outsAt1_A V c t h0]
      unfold out1_A_16 sout1_A_0 sout1_A_1 sout1_A_2 sout1_A_3 out1_B_16 sout1_B_1; (try dsimp only)
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
      iapply (run1_A c (grid1.coords t) _ _ _ _ _ _ _ _ _ _ _ _ _ _ _ _ _ _ _ _ _ _ _ _ _ _ _ _ _ _ _ _ _ _ _ _ _ _ _ _ _ _ ((hcond1_0 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexists _; iexact H16
      isplitl [HS0]; · iexact HS0
      isplitl [HS1]; · iexact HS1
      isplitl [HS2]; · iexact HS2
      isplitl [HS3]; · iexact HS3
      iintro ⟨H0, H1, H2, H3, H4, H5, H6, H7, H8, H9, H10, H11, H12, H13, H14, H15, ⟨%e16, H16⟩, HS0, HS1, HS2, HS3⟩
      isplitl [HS0 HS1 HS2 HS3 Hg]
      · isplitl [HS0 HS1 HS2 HS3]
        · isplitl [HS0]; · iexact HS0
          isplitl [HS1]; · iexact HS1
          isplitl [HS2]; · iexact HS2
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      unfold owns; iexists _; isplitr
      swap; · iexact H16
      ipureintro; exact View.read_writes_of_cover _ _ _ _ _ (cover1_B_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    · exfalso; have hN : t.val < 16 := lt_of_lt_of_eq t.isLt (show cfg1.N = 16 from N_1); omega
  · by_cases hz : t.val = 0
    · exfalso; have hN : t.val < 16 := lt_of_lt_of_eq t.isLt (show cfg1.N = 16 from N_1); omega
    · rw [PhiS_castSucc V c t, PhiS_pos V c _ _ hz]
      rw [outsAt1_B V c t h0]
      unfold out1_B_16 sout1_B_0 sout1_B_1 sout1_B_2 sout1_B_3; (try dsimp only)
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
      iapply ((kernelRun1_B c (grid1.coords t) _ _ _ _ _ _ _ _ _ _ _ _ _ _ _ _ _ _ _ _ _ _ _ _ _ _ _ _ _ _ _ _ _ _ _ _ _ _ _ _ _ _ (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) _ _ _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexists _; iexact H16
      isplitl [HS0]; · iexact HS0
      isplitl [HS1]; · iexact HS1
      isplitl [HS2]; · iexact HS2
      isplitl [HS3]; · iexact HS3
      iintro ⟨H0, H1, H2, H3, H4, H5, H6, H7, H8, H9, H10, H11, H12, H13, H14, H15, ⟨%e16, H16⟩, HS0, HS1, HS2, HS3⟩
      isplitl [HS0 HS1 HS2 HS3 Hg]
      · isplitl [HS0 HS1 HS2 HS3]
        · isplitl [HS0]
          · iexact HS0
          isplitl [HS1]
          · unfold owns; iexists _; isplitr
            swap; · iexact HS1
            ipureintro; rfl
          isplitl [HS2]
          · iexact HS2
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      unfold owns; iexists _; isplitr
      swap; · iexact H16
      ipureintro; exact View.read_writes_of_cover _ _ _ _ _ (cover1_B_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

theorem hin1 (c : Dev nD) : Pipeline.ΦA spec1 c ⊢ (dat1 V c).Φ 0 := by
  rw [show (dat1 V c).Φ 0 = PhiS V c 0 (Nat.zero_le _) from rfl, PhiS_zero V c 0 _ rfl]
  exact PhiStart_in c

theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht]
  refine Idealize.SL.BI.BIBase.Entails.trans ?_ (PhiStart_out c)
  unfold PhiStart
  iintro ⟨⟨HS0, HS1, HS2, HS3⟩, Hg⟩
  isplitl [HS0 HS1 HS2 HS3]
  · isplitl [HS0]
    · iexists _; iexact HS0
    isplitl [HS1]
    · iexists _; iexact HS1
    isplitl [HS2]
    · iexists _; iexact HS2
    iexists _; iexact HS3
  iexact Hg

theorem hout1 (c : Dev nD) : (dat1 V c).Φ (Fin.last cfg1.N) ⊢ Pipeline.ΦA spec1 c :=
  Phi_out1 V c _ (by rw [Fin.val_last]; have : cfg1.N = 16 := N_1; omega)

end Cert.Kernel13Ideal.S5

end
-- ==== Proof.S5.Launch.lean ====
module

public import proofs.«01_k».proof.Proof.S5.Body
public import Idealize.ShloMosaic.Lib.Claim

@[expose] public section

set_option maxRecDepth 16384

noncomputable section

namespace Cert.Kernel13Ideal.S5

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel13Ideal.Gen

variable {F : FTy → Type} [FloatOps F]
variable (m : (ℓ : Loc nD τ sig) → Buf (Elt F) ℓ) (ρ : Dev nD → PrngReg)

abbrev argRefs : List (Ref sig .tc) := [main_arg0, main_arg1, main_arg2, main_arg3, main_arg4, main_arg5, main_arg6, main_arg7, main_arg8, main_arg9, main_arg10]

theorem hostOps0_fresh : (hostOps0 : List (HloOp τ sig (Elt F))).Forall fun op => op.fresh = ∅ := by
  simp only [List.Forall]; repeat' constructor
abbrev hostOps0_W : List (Ref sig .tc) := [main_v0, main_v1, main_v2, main_v3, main_v4, main_v5, main_v6, main_v7]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)

theorem hostOps1_fresh : (hostOps1 : List (HloOp τ sig (Elt F))).Forall fun op => op.fresh = ∅ := by
  simp only [List.Forall]; repeat' constructor
abbrev hostOps1_W : List (Ref sig .tc) := [main_v9, main_v10, main_v11, main_v12, main_v13, main_v14, main_v15, main_v16, main_v17, main_v18, main_v19, main_v20, main_v21, main_v22, main_v23, main_v24, main_v25, main_v26]
theorem hostOps1_writes : (hostOps1 : List (HloOp τ sig (Elt F))).Forall fun op => op.writes ⊆ (hostOps1_W.map (Proc.devRef (τ := τ) .tc)).toFinset :=
  StableHlo.forall_writes_sub_of_map rfl
theorem hostOps1_args : ∀ a ∈ argRefs, a ∉ hostOps1_W := ListAll.forall_mem_of_all_decide (by decide +kernel)

/-- The buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- The buffers when the first call is entered. -/
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
abbrev V1 : (c : Dev nD) → (b : Ref sig .tc) → Buf (Elt F) ((c : Thread nD τ).loc b) := fun c b => W1 m ρ c b
/-- The buffers when the first call has run. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- The buffers when the second call is entered. -/
abbrev W3 : Dev nD → Valuation τ sig (Elt F) := fun c => StableHlo.after hostOps1 (W2 m ρ c)
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
abbrev V3 : (c : Dev nD) → (b : Ref sig .tc) → Buf (Elt F) ((c : Thread nD τ).loc b) := fun c b => W3 m ρ c b
/-- The buffers when the second call has run. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

theorem W4_main_arg0 (c : Dev nD) : W4 m ρ c (Proc.devRef .tc main_arg0) = m ((c : Thread nD τ).loc main_arg0) :=
  W4_args m ρ c main_arg0 (by decide)
theorem W4_main_arg1 (c : Dev nD) : W4 m ρ c (Proc.devRef .tc main_arg1) = m ((c : Thread nD τ).loc main_arg1) :=
  W4_args m ρ c main_arg1 (by decide)
theorem W4_main_arg2 (c : Dev nD) : W4 m ρ c (Proc.devRef .tc main_arg2) = m ((c : Thread nD τ).loc main_arg2) :=
  W4_args m ρ c main_arg2 (by decide)
theorem W4_main_arg3 (c : Dev nD) : W4 m ρ c (Proc.devRef .tc main_arg3) = m ((c : Thread nD τ).loc main_arg3) :=
  W4_args m ρ c main_arg3 (by decide)
theorem W4_main_arg4 (c : Dev nD) : W4 m ρ c (Proc.devRef .tc main_arg4) = m ((c : Thread nD τ).loc main_arg4) :=
  W4_args m ρ c main_arg4 (by decide)
theorem W4_main_arg5 (c : Dev nD) : W4 m ρ c (Proc.devRef .tc main_arg5) = m ((c : Thread nD τ).loc main_arg5) :=
  W4_args m ρ c main_arg5 (by decide)
theorem W4_main_arg6 (c : Dev nD) : W4 m ρ c (Proc.devRef .tc main_arg6) = m ((c : Thread nD τ).loc main_arg6) :=
  W4_args m ρ c main_arg6 (by decide)
theorem W4_main_arg7 (c : Dev nD) : W4 m ρ c (Proc.devRef .tc main_arg7) = m ((c : Thread nD τ).loc main_arg7) :=
  W4_args m ρ c main_arg7 (by decide)
theorem W4_main_arg8 (c : Dev nD) : W4 m ρ c (Proc.devRef .tc main_arg8) = m ((c : Thread nD τ).loc main_arg8) :=
  W4_args m ρ c main_arg8 (by decide)
theorem W4_main_arg9 (c : Dev nD) : W4 m ρ c (Proc.devRef .tc main_arg9) = m ((c : Thread nD τ).loc main_arg9) :=
  W4_args m ρ c main_arg9 (by decide)
theorem W4_main_arg10 (c : Dev nD) : W4 m ρ c (Proc.devRef .tc main_arg10) = m ((c : Thread nD τ).loc main_arg10) :=
  W4_args m ρ c main_arg10 (by decide)

abbrev adm : (p : Fin 2) → (pcfgs (F := F) p).Adm := fun p => (cfgs p).toPCfg_adm
/-- Both calls' proof data, each at its entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
abbrev R (c : Dev nD) : sProp (MM F) := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp (MM F) := iprop(StableHlo.held (c : Thread nD τ) (Pipeline.ucRefs τ sig) (W4 m ρ c) ∗ ∃ r, prngReg c r)
set_option backward.isDefEq.respectTransparency.types false in
/-- The first call as a segment of the program. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (V3 m ρ) c
    unfold Pipeline.ΦA at h
    rw [show (pdats m ρ 1 c).Φ 0 = (dat1 (V3 m ρ) c).Φ 0 from rfl]
    iintro ⟨Hp, -, Hr⟩
    iapply h
    isplitl [Hr]; · iexact Hr
    iexact Hp
  hout c := by
    have h := hout1 (V3 m ρ) c
    unfold Pipeline.ΦA at h
    rw [Pipeline.ownSems0_none, show (pdats m ρ 1 c).Φ (Fin.last _) = (dat1 (V3 m ρ) c).Φ (Fin.last cfg1.N) from rfl]
    iintro H
    ihave H := h $$ H
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

theorem no_unscoped : ∀ sm : SemLoc sig, sm.isScoped .tc = true := by decide
set_option backward.isDefEq.respectTransparency.types false in
/-- The program runs to its end, leaves its arguments as they were, and its result holds what the second call wrote. -/
theorem run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_v27) = (dat1 (V3 m ρ) c).arrAt 16 cfg1.N)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MM F))
            ⊢ BI.own (emb₁ (initOf (Pipeline.cells cfgs cellOf_inj) (Pipeline.launchToks cfgs cellOf_inj))) from .rfl)
        iexact Hu
      iapply (show (BI.emp : sProp (MM F)) ⊢ bigSep Finset.univ (fun _ : Dev nD => (BI.emp : sProp (MM F))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨(fun c =>
      ⟨(h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_v27 (by decide))).trans (W4_arr m ρ c 16)⟩), funext fun g => hz g (.inr (no_unscoped g.2))⟩)

/-- The program runs to its end and leaves its arguments as they were. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun _ h => ⟨fun c => ⟨(h.1 c).1, (h.1 c).2.1, (h.1 c).2.2.1, (h.1 c).2.2.2.1, (h.1 c).2.2.2.2.1, (h.1 c).2.2.2.2.2.1, (h.1 c).2.2.2.2.2.2.1, (h.1 c).2.2.2.2.2.2.2.1, (h.1 c).2.2.2.2.2.2.2.2.1, (h.1 c).2.2.2.2.2.2.2.2.2.1, (h.1 c).2.2.2.2.2.2.2.2.2.2.1⟩, h.2⟩) (run m ρ)

end Cert.Kernel13Ideal.S5

end
-- ==== Proof.S5.Bits.lean ====
module

public import proofs.«01_k».proof.Proof.S5.Launch
public import proofs.«01_k».proof.Proof.Gen.Kernel13.Launch

@[expose] public section

noncomputable section

open Idealize.SL Idealize.SL.Sem Idealize.ShloMosaic Idealize.ShloMosaic.TcCoe Idealize.ShloMosaic.Tactic

variable {F : FTy → Type} [FloatOps F]

namespace Cert.Kernel13.S5

/-- Two programs that call the same pipelines with the same bodies run alike. -/
theorem run_of_same {nD : ℕ} {τ : Topo} {sig : RefSig} {Λ : Labels} {p q : Fin 2 → Pipeline.PCfg sig Λ (Elt F)} (hp : q = p)
    {d d' : Defs nD τ sig (Elt F) Λ} (hd : d' = d)
    {mn : Dev nD → Prog (TpuEff nD τ sig (Elt F) (Pipeline.Sig Λ (Fin 2) fun i => (p i).Adm) .tc) PUnit}
    {mn' : Dev nD → Prog (TpuEff nD τ sig (Elt F) (Pipeline.Sig Λ (Fin 2) fun i => (q i).Adm) .tc) PUnit} (hm : HEq mn' mn)
    {s : MemSt nD τ sig (Elt F)} {Q : _ → Prop} (h : θ_run (Pipeline.defs p d) (onTc mn) s Q) :
    θ_run (Pipeline.defs q d') (onTc mn') s Q := by
  subst hp; subst hd; rw [eq_of_heq hm]; exact h

set_option maxHeartbeats 8000000 in
/-- The two texts' pipelines are the same. -/
theorem pcfgs_eq : Cert.Kernel13.pcfgs (F := F) = Cert.Kernel13Ideal.pcfgs (F := F) := by
  funext p
  match p with
  | ⟨0, _⟩ => rfl
  | ⟨1, _⟩ => rfl
set_option maxHeartbeats 8000000 in
/-- The two texts' bodies are the same. -/
theorem defs_eq : Cert.Kernel13.defs₀ (F := F) = Cert.Kernel13Ideal.defs₀ (F := F) := by
  unfold Cert.Kernel13.defs₀ Cert.Kernel13Ideal.defs₀
  refine congrArg Defs.onTc ?_
  funext l a
  match l, a with
  | ⟨0, _⟩, a => rfl
  | ⟨1, _⟩, a => rfl
set_option maxHeartbeats 8000000 in
theorem main_eq : Cert.Kernel13.main (F := F) = Cert.Kernel13Ideal.main (F := F) := rfl

open Cert.Kernel13

variable (m : (ℓ : Loc nD τ sig) → Buf (Elt F) ℓ) (ρ : Dev nD → PrngReg)

set_option maxHeartbeats 8000000 in
/-- The program as printed runs to its end and leaves its arguments as they were: it is the same program. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  run_of_same pcfgs_eq defs_eq (heq_of_eq main_eq) (Cert.Kernel13Ideal.S5.frame (F := F) m ρ)

end Cert.Kernel13.S5
end
end
-- ==== Proof.lean ====
module

public import proofs.«01_k».proof.Defs
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Frame
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Layer.FfnClaims
public import proofs.«01_k».proof.Proof.Layer.Head
public import proofs.«01_k».proof.Proof.Layer.RestClaims
public import Idealize.ShloMosaic.Adequacy
public import proofs.«01_k».proof.Proof.S5.Bits
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import Idealize.ShloMosaic.Init

@[expose] public section

noncomputable section

namespace Cert.Proof

open Idealize.ShloMosaic Idealize.SL.Sem Cert.Kernel2

theorem claim : Cert.Claim := ⟨Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts,
    Cert.Kernel14.Gen.facts, Cert.Kernel14Ideal.Gen.facts, Cert.Reference14Ideal.Gen.facts,
    fun m ρ _ => Cert.Kernel2.Gen.frame m ρ, fun m ρ _ => Cert.Kernel2Ideal.Gen.frame m ρ, Layer.ref2_ends,
    fun m ρ _ => Cert.Kernel3.Gen.frame m ρ, fun m ρ _ => Cert.Kernel3Ideal.Gen.frame m ρ, Layer.ref3_ends,
    fun m ρ _ => Cert.Kernel4.Gen.frame m ρ, fun m ρ _ => Cert.Kernel4Ideal.Gen.frame m ρ, Layer.ref4_ends,
    fun m ρ _ => Cert.Kernel5.Gen.frame m ρ, fun m ρ _ => Cert.Kernel5Ideal.Gen.frame m ρ, Layer.ref5_ends,
    fun m ρ _ => Cert.Kernel6.Gen.frame m ρ, fun m ρ _ => Cert.Kernel6Ideal.Gen.frame m ρ, Layer.ref6_ends,
    fun m ρ _ => Cert.Kernel7.Gen.frame m ρ, fun m ρ _ => Cert.Kernel7Ideal.Gen.frame m ρ, Layer.ref7_ends,
    fun m ρ _ => Cert.Kernel8.Gen.frame m ρ, fun m ρ _ => Cert.Kernel8Ideal.Gen.frame m ρ, Layer.ref8_ends,
    fun m ρ _ => Cert.Kernel9.Gen.frame m ρ, fun m ρ _ => Cert.Kernel9Ideal.Gen.frame m ρ, Layer.ref9_ends,
    fun m ρ _ => Cert.Kernel10.Gen.frame m ρ, fun m ρ _ => Cert.Kernel10Ideal.Gen.frame m ρ, Layer.ref10_ends,
    fun m ρ _ => Cert.Kernel11.Gen.frame m ρ, fun m ρ _ => Cert.Kernel11Ideal.Gen.frame m ρ, Layer.ref11_ends,
    fun m ρ _ => Cert.Kernel12.Gen.frame m ρ, fun m ρ _ => Cert.Kernel12Ideal.Gen.frame m ρ, Layer.ref12_ends,
    fun m ρ _ => Cert.Kernel13.S5.frame m ρ, fun m ρ _ => Cert.Kernel13Ideal.S5.frame m ρ,
    fun m ρ _ => Cert.Kernel14.Gen.frame m ρ, fun m ρ _ => Cert.Kernel14Ideal.Gen.frame m ρ, Layer.ref14_ends,
    trivial, Layer.up_eq, trivial, Layer.down_eq, trivial, Layer.final_eq, trivial, Layer.projRkv_eq, trivial, Layer.projU_eq, trivial, Layer.projG_eq, trivial, Layer.merge_eq, trivial, Layer.wOut_eq, trivial, Layer.mid_eq, trivial, Layer.ada_eq, trivial, Layer.head_eq, trivial, trivial, Layer.tables_eq⟩

end Cert.Proof

end
